-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_in_range [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_range [hPre_labels_in_range : Cert.Pre_labels_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_labels_in_range [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_labels_in_range [hReferenceIdeal : Cert.ReferenceIdeal.Facts] [hPre_labels_in_range : Cert.Pre_labels_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_labels_in_range [hKernelIdeal : Cert.KernelIdeal.Facts] [hReferenceIdeal : Cert.ReferenceIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v28)) (v2 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_v32) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_labels_in_range : Cert.Pre_labels_in_range.Facts),
    quiescent_Kernel (hKernel := hKernel)
    ∧ quiescent_KernelIdeal (hKernelIdeal := hKernelIdeal)
    ∧ quiescent_KernelIdeal_pre_labels_in_range (hKernelIdeal := hKernelIdeal) (hPre_labels_in_range := hPre_labels_in_range)
    ∧ quiescent_ReferenceIdeal (hReferenceIdeal := hReferenceIdeal)
    ∧ quiescent_ReferenceIdeal_pre_labels_in_range (hReferenceIdeal := hReferenceIdeal) (hPre_labels_in_range := hPre_labels_in_range)
    ∧ preserves_Kernel_KernelIdeal
    ∧ algebraic_KernelIdeal_ReferenceIdeal_pre_labels_in_range (hKernelIdeal := hKernelIdeal) (hReferenceIdeal := hReferenceIdeal) (hPre_labels_in_range := hPre_labels_in_range)
-- ==== Pre_labels_in_range.lean ====
abbrev S262144x4 : Shape := ⟨2, ![262144, 4]⟩
abbrev S262144x80 : Shape := ⟨2, ![262144, 80]⟩
abbrev S262144x2 : Shape := ⟨2, ![262144, 2]⟩
abbrev S262144 : Shape := ⟨1, ![262144]⟩
abbrev S_ : Shape := ⟨0, ![]⟩

class Facts : Prop where
  bcast_S_S262144 : S_.BroadcastsInDim S262144 (![] : Fin 0 → Fin S262144.rank)

variable [Facts]

def fn {F : FTy → Type} [FloatOps F] (main_arg0 : FVec F S262144x4 .f32) (main_arg1 : FVec F S262144x80 .f32) (main_arg2 : FVec F S262144x2 .f32) (main_arg3 : FVec F S262144x4 .f32) (main_arg4 : IVec S262144 32) (main_arg5 : IVec S262144 32) (main_arg6 : FVec F S_ .f32) (main_arg7 : FVec F S_ .f32) (main_arg8 : FVec F S_ .f32) (main_arg9 : IVec S_ 32) : IVec S262144 1 :=
  let main_c : IVec S_ 32 := constantI S_ 32 0#32
  let main_v0 : IVec S262144 32 := broadcastInDim S262144 ![] bcast_S_S262144 main_c
  let main_v1 : IVec S262144 1 := cmpi .sge main_arg4 main_v0
  let main_c_0 : IVec S_ 32 := constantI S_ 32 80#32
  let main_v2 : IVec S262144 32 := broadcastInDim S262144 ![] bcast_S_S262144 main_c_0
  let main_v3 : IVec S262144 1 := cmpi .slt main_arg4 main_v2
  let main_v4 : IVec S262144 1 := andi main_v1 main_v3
  main_v4
-- ==== Kernel.lean ====
abbrev S262144x4 : Shape := ⟨2, ![262144, 4]⟩
abbrev S262144x80 : Shape := ⟨2, ![262144, 80]⟩
abbrev S262144x2 : Shape := ⟨2, ![262144, 2]⟩
abbrev S262144 : Shape := ⟨1, ![262144]⟩
abbrev S_ : Shape := ⟨0, ![]⟩
abbrev S32x1x32768 : Shape := ⟨3, ![32, 1, 32768]⟩
abbrev S32x1x16384 : Shape := ⟨3, ![32, 1, 16384]⟩
abbrev S32x1x8192 : Shape := ⟨3, ![32, 1, 8192]⟩
abbrev S524288 : Shape := ⟨1, ![524288]⟩
abbrev S1048576 : Shape := ⟨1, ![1048576]⟩
abbrev S1x8192 : Shape := ⟨2, ![1, 8192]⟩
abbrev S1x16384 : Shape := ⟨2, ![1, 16384]⟩
abbrev S1x32768 : Shape := ⟨2, ![1, 32768]⟩
abbrev S8192x80 : Shape := ⟨2, ![8192, 80]⟩
abbrev S1x1x8192 : Shape := ⟨3, ![1, 1, 8192]⟩
abbrev S1x1x16384 : Shape := ⟨3, ![1, 1, 16384]⟩
abbrev S1x1x32768 : Shape := ⟨3, ![1, 1, 32768]⟩
abbrev S80x8192 : Shape := ⟨2, ![80, 8192]⟩
abbrev S8192 : Shape := ⟨1, ![8192]⟩
abbrev S1x16383 : Shape := ⟨2, ![1, 16383]⟩
abbrev S1x1 : Shape := ⟨2, ![1, 1]⟩

abbrev nBuf : Space → Nat
  | .hbm => 54
  | .vmem => 19
  | .smem => 0
  | _ => 0

abbrev bufTy : (tb : Table) → Fin (tcTables nBuf tb) → BufTy
  | .hbm, ⟨0, _⟩ => ⟨S262144x4, .f32⟩
  | .hbm, ⟨1, _⟩ => ⟨S262144x80, .f32⟩
  | .hbm, ⟨2, _⟩ => ⟨S262144x2, .f32⟩
  | .hbm, ⟨3, _⟩ => ⟨S262144x4, .f32⟩
  | .hbm, ⟨4, _⟩ => ⟨S262144, .i32⟩
  | .hbm, ⟨5, _⟩ => ⟨S262144, .i32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .i32⟩
  | .hbm, ⟨10, _⟩ => ⟨S32x1x32768, .f32⟩
  | .hbm, ⟨11, _⟩ => ⟨S32x1x16384, .f32⟩
  | .hbm, ⟨12, _⟩ => ⟨S32x1x32768, .f32⟩
  | .hbm, ⟨13, _⟩ => ⟨S32x1x8192, .i32⟩
  | .hbm, ⟨14, _⟩ => ⟨S32x1x8192, .i32⟩
  | .hbm, ⟨15, _⟩ => ⟨S262144x2, .i32⟩
  | .hbm, ⟨16, _⟩ => ⟨S524288, .i32⟩
  | .hbm, ⟨17, _⟩ => ⟨S32x1x16384, .i32⟩
  | .hbm, ⟨18, _⟩ => ⟨S262144x4, .i32⟩
  | .hbm, ⟨19, _⟩ => ⟨S1048576, .i32⟩
  | .hbm, ⟨20, _⟩ => ⟨S32x1x32768, .i32⟩
  | .hbm, ⟨21, _⟩ => ⟨S1x8192, .f32⟩
  | .hbm, ⟨22, _⟩ => ⟨S1x16384, .f32⟩
  | .hbm, ⟨23, _⟩ => ⟨S1x32768, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .local _ .vmem, ⟨0, _⟩ => ⟨S8192x80, .f32⟩
  | .local _ .vmem, ⟨1, _⟩ => ⟨S8192x80, .f32⟩
  | .local _ .vmem, ⟨2, _⟩ => ⟨S1x1x8192, .i32⟩
  | .local _ .vmem, ⟨3, _⟩ => ⟨S1x1x8192, .i32⟩
  | .local _ .vmem, ⟨4, _⟩ => ⟨S1x1x8192, .i32⟩
  | .local _ .vmem, ⟨5, _⟩ => ⟨S1x1x8192, .i32⟩
  | .local _ .vmem, ⟨6, _⟩ => ⟨S1x1x16384, .f32⟩
  | .local _ .vmem, ⟨7, _⟩ => ⟨S1x1x16384, .f32⟩
  | .local _ .vmem, ⟨8, _⟩ => ⟨S1x1x16384, .i32⟩
  | .local _ .vmem, ⟨9, _⟩ => ⟨S1x1x16384, .i32⟩
  | .local _ .vmem, ⟨10, _⟩ => ⟨S1x1x32768, .f32⟩
  | .local _ .vmem, ⟨11, _⟩ => ⟨S1x1x32768, .f32⟩
  | .local _ .vmem, ⟨12, _⟩ => ⟨S1x1x32768, .f32⟩
  | .local _ .vmem, ⟨13, _⟩ => ⟨S1x1x32768, .f32⟩
  | .local _ .vmem, ⟨14, _⟩ => ⟨S1x1x32768, .i32⟩
  | .local _ .vmem, ⟨15, _⟩ => ⟨S1x1x32768, .i32⟩
  | .local _ .vmem, ⟨16, _⟩ => ⟨S1x8192, .f32⟩
  | .local _ .vmem, ⟨17, _⟩ => ⟨S1x16384, .f32⟩
  | .local _ .vmem, ⟨18, _⟩ => ⟨S1x32768, .f32⟩
  | _, _ => ⟨S262144x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev main_cst : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_cst_3 : Ref sig .tc := ⟨.hbm, 32, rfl⟩
abbrev main_v16 : Ref sig .tc := ⟨.hbm, 33, rfl⟩
abbrev main_cst_4 : Ref sig .tc := ⟨.hbm, 34, rfl⟩
abbrev main_v17 : Ref sig .tc := ⟨.hbm, 35, rfl⟩
abbrev main_cst_5 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_cst_7 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x8192 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x16384 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x32768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x32768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x32768 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x8192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x16384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x32768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S262144x4 : Shape := ⟨2, ![262144, 4]⟩
abbrev S262144x80 : Shape := ⟨2, ![262144, 80]⟩
abbrev S262144x2 : Shape := ⟨2, ![262144, 2]⟩
abbrev S262144 : Shape := ⟨1, ![262144]⟩
abbrev S_ : Shape := ⟨0, ![]⟩
abbrev S262144x1 : Shape := ⟨2, ![262144, 1]⟩
abbrev S262144x1x1 : Shape := ⟨3, ![262144, 1, 1]⟩
abbrev S1 : Shape := ⟨1, ![1]⟩
abbrev S1x1x1 : Shape := ⟨3, ![1, 1, 1]⟩

abbrev nBuf : Space → Nat
  | .hbm => 189
  | .vmem => 0
  | .smem => 0
  | _ => 0

abbrev hbmTy0_0 (i : Nat) : BufTy := match i % 128 with
  | 0 => ⟨S262144x4, .f32⟩
  | 1 => ⟨S262144x80, .f32⟩
  | 2 => ⟨S262144x2, .f32⟩
  | 3 => ⟨S262144x4, .f32⟩
  | 4 => ⟨S262144, .i32⟩
  | 5 => ⟨S262144, .i32⟩
  | 6 => ⟨S_, .f32⟩
  | 7 => ⟨S_, .f32⟩
  | 8 => ⟨S_, .f32⟩
  | 9 => ⟨S_, .i32⟩
  | 10 => ⟨S_, .i32⟩
  | 11 => ⟨S262144, .i32⟩
  | 12 => ⟨S262144, .i1⟩
  | 13 => ⟨S262144, .f32⟩
  | 14 => ⟨S_, .i32⟩
  | 15 => ⟨S262144, .i32⟩
  | 16 => ⟨S262144, .i1⟩
  | 17 => ⟨S262144, .f32⟩
  | 18 => ⟨S_, .i32⟩
  | 19 => ⟨S_, .i32⟩
  | 20 => ⟨S_, .i32⟩
  | 21 => ⟨S262144, .i32⟩
  | 22 => ⟨S262144, .i32⟩
  | 23 => ⟨S_, .i32⟩
  | 24 => ⟨S262144, .i32⟩
  | 25 => ⟨S262144, .i32⟩
  | 26 => ⟨S_, .f32⟩
  | 27 => ⟨S262144, .f32⟩
  | 28 => ⟨S_, .f32⟩
  | 29 => ⟨S262144, .f32⟩
  | 30 => ⟨S262144, .f32⟩
  | 31 => ⟨S262144x1, .f32⟩
  | 32 => ⟨S262144x2, .f32⟩
  | 33 => ⟨S262144x2, .f32⟩
  | 34 => ⟨S262144x2, .f32⟩
  | 35 => ⟨S_, .f32⟩
  | 36 => ⟨S262144, .f32⟩
  | 37 => ⟨S262144x1, .f32⟩
  | 38 => ⟨S262144x1, .f32⟩
  | 39 => ⟨S262144x2, .f32⟩
  | 40 => ⟨S262144x2, .f32⟩
  | 41 => ⟨S_, .i32⟩
  | 42 => ⟨S_, .i32⟩
  | 43 => ⟨S_, .i32⟩
  | 44 => ⟨S262144, .i32⟩
  | 45 => ⟨S262144, .i32⟩
  | 46 => ⟨S_, .i32⟩
  | 47 => ⟨S262144, .i32⟩
  | 48 => ⟨S262144, .i32⟩
  | 49 => ⟨S262144x1, .i32⟩
  | 50 => ⟨S_, .i32⟩
  | 51 => ⟨S262144x1, .i32⟩
  | 52 => ⟨S262144x1, .i1⟩
  | 53 => ⟨S_, .i32⟩
  | 54 => ⟨S262144x1, .i32⟩
  | 55 => ⟨S262144x1, .i32⟩
  | 56 => ⟨S262144x1, .i32⟩
  | 57 => ⟨S262144x1x1, .i32⟩
  | 58 => ⟨S1, .i32⟩
  | 59 => ⟨S_, .i32⟩
  | 60 => ⟨S262144x1x1, .i32⟩
  | 61 => ⟨S262144x1x1, .i1⟩
  | 62 => ⟨S1x1x1, .i32⟩
  | 63 => ⟨S262144x1x1, .i32⟩
  | 64 => ⟨S262144x1x1, .i1⟩
  | 65 => ⟨S262144x1x1, .i1⟩
  | 66 => ⟨S_, .i1⟩
  | 67 => ⟨S262144x1, .i1⟩
  | 68 => ⟨S262144x1, .f32⟩
  | 69 => ⟨S_, .f32⟩
  | 70 => ⟨S262144x1, .f32⟩
  | 71 => ⟨S262144x1, .f32⟩
  | 72 => ⟨S262144, .f32⟩
  | 73 => ⟨S262144, .f32⟩
  | 74 => ⟨S_, .f32⟩
  | 75 => ⟨S262144, .f32⟩
  | 76 => ⟨S262144, .f32⟩
  | 77 => ⟨S_, .f32⟩
  | 78 => ⟨S262144, .f32⟩
  | 79 => ⟨S262144, .f32⟩
  | 80 => ⟨S262144, .f32⟩
  | 81 => ⟨S262144, .f32⟩
  | 82 => ⟨S262144, .f32⟩
  | 83 => ⟨S_, .f32⟩
  | 84 => ⟨S_, .f32⟩
  | 85 => ⟨S_, .f32⟩
  | 86 => ⟨S_, .f32⟩
  | 87 => ⟨S_, .f32⟩
  | 88 => ⟨S262144, .f32⟩
  | 89 => ⟨S_, .f32⟩
  | 90 => ⟨S262144, .f32⟩
  | 91 => ⟨S262144, .f32⟩
  | 92 => ⟨S262144x1, .f32⟩
  | 93 => ⟨S262144x80, .f32⟩
  | 94 => ⟨S262144x80, .f32⟩
  | 95 => ⟨S262144x80, .f32⟩
  | 96 => ⟨S_, .f32⟩
  | 97 => ⟨S262144, .f32⟩
  | 98 => ⟨S262144x1, .f32⟩
  | 99 => ⟨S262144x1, .f32⟩
  | 100 => ⟨S262144x80, .f32⟩
  | 101 => ⟨S262144x80, .f32⟩
  | 102 => ⟨S_, .i32⟩
  | 103 => ⟨S_, .i32⟩
  | 104 => ⟨S_, .i32⟩
  | 105 => ⟨S262144, .i32⟩
  | 106 => ⟨S262144, .i32⟩
  | 107 => ⟨S_, .i32⟩
  | 108 => ⟨S262144, .i32⟩
  | 109 => ⟨S262144, .i32⟩
  | 110 => ⟨S262144x1, .i32⟩
  | 111 => ⟨S_, .i32⟩
  | 112 => ⟨S262144x1, .i32⟩
  | 113 => ⟨S262144x1, .i1⟩
  | 114 => ⟨S_, .i32⟩
  | 115 => ⟨S262144x1, .i32⟩
  | 116 => ⟨S262144x1, .i32⟩
  | 117 => ⟨S262144x1, .i32⟩
  | 118 => ⟨S262144x1x1, .i32⟩
  | 119 => ⟨S1, .i32⟩
  | 120 => ⟨S_, .i32⟩
  | 121 => ⟨S262144x1x1, .i32⟩
  | 122 => ⟨S262144x1x1, .i1⟩
  | 123 => ⟨S1x1x1, .i32⟩
  | 124 => ⟨S262144x1x1, .i32⟩
  | 125 => ⟨S262144x1x1, .i1⟩
  | 126 => ⟨S262144x1x1, .i1⟩
  | 127 => ⟨S_, .i1⟩
  | _ => ⟨S262144x4, .f32⟩

abbrev hbmTy0_1 (i : Nat) : BufTy := match i % 128 with
  | 0 => ⟨S262144x1, .i1⟩
  | 1 => ⟨S262144x1, .f32⟩
  | 2 => ⟨S_, .f32⟩
  | 3 => ⟨S262144x1, .f32⟩
  | 4 => ⟨S262144x1, .f32⟩
  | 5 => ⟨S262144, .f32⟩
  | 6 => ⟨S262144, .f32⟩
  | 7 => ⟨S_, .f32⟩
  | 8 => ⟨S262144, .f32⟩
  | 9 => ⟨S262144, .f32⟩
  | 10 => ⟨S_, .f32⟩
  | 11 => ⟨S262144, .f32⟩
  | 12 => ⟨S262144, .f32⟩
  | 13 => ⟨S262144, .f32⟩
  | 14 => ⟨S262144, .f32⟩
  | 15 => ⟨S262144, .f32⟩
  | 16 => ⟨S_, .f32⟩
  | 17 => ⟨S_, .f32⟩
  | 18 => ⟨S_, .f32⟩
  | 19 => ⟨S_, .f32⟩
  | 20 => ⟨S262144x4, .f32⟩
  | 21 => ⟨S262144x4, .f32⟩
  | 22 => ⟨S_, .f32⟩
  | 23 => ⟨S262144x4, .f32⟩
  | 24 => ⟨S262144x4, .i1⟩
  | 25 => ⟨S_, .f32⟩
  | 26 => ⟨S262144x4, .f32⟩
  | 27 => ⟨S262144x4, .f32⟩
  | 28 => ⟨S262144x4, .f32⟩
  | 29 => ⟨S_, .f32⟩
  | 30 => ⟨S262144x4, .f32⟩
  | 31 => ⟨S262144x4, .f32⟩
  | 32 => ⟨S_, .f32⟩
  | 33 => ⟨S262144x4, .f32⟩
  | 34 => ⟨S262144x4, .f32⟩
  | 35 => ⟨S262144x4, .f32⟩
  | 36 => ⟨S_, .f32⟩
  | 37 => ⟨S262144, .f32⟩
  | 38 => ⟨S262144, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | _ => ⟨S262144x4, .f32⟩

abbrev hbmTy (i : Nat) : BufTy := match i / 128 with
  | 0 => hbmTy0_0 i
  | 1 => hbmTy0_1 i
  | _ => ⟨S262144x4, .f32⟩

abbrev bufTy : (tb : Table) → Fin (tcTables nBuf tb) → BufTy
  | .hbm, ⟨i, _⟩ => hbmTy i
  | _, _ => ⟨S262144x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c_1 : Ref sig .tc := ⟨.hbm, 18, rfl⟩
abbrev main_c_2 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v6 : Ref sig .tc := ⟨.hbm, 25, rfl⟩
abbrev main_call1_cst : Ref sig .tc := ⟨.hbm, 26, rfl⟩
abbrev main_call1_v0 : Ref sig .tc := ⟨.hbm, 27, rfl⟩
abbrev main_call1_cst_0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_cst_1 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_v7 : Ref sig .tc := ⟨.hbm, 40, rfl⟩
abbrev main_c_3 : Ref sig .tc := ⟨.hbm, 41, rfl⟩
abbrev main_c_4 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_v8 : Ref sig .tc := ⟨.hbm, 48, rfl⟩
abbrev main_v9 : Ref sig .tc := ⟨.hbm, 49, rfl⟩
abbrev main_call3_c : Ref sig .tc := ⟨.hbm, 50, rfl⟩
abbrev main_call3_v0 : Ref sig .tc := ⟨.hbm, 51, rfl⟩
abbrev main_call3_v1 : Ref sig .tc := ⟨.hbm, 52, rfl⟩
abbrev main_call3_c_0 : Ref sig .tc := ⟨.hbm, 53, rfl⟩
abbrev main_call3_v2 : Ref sig .tc := ⟨.hbm, 54, rfl⟩
abbrev main_call3_v3 : Ref sig .tc := ⟨.hbm, 55, rfl⟩
abbrev main_call3_v4 : Ref sig .tc := ⟨.hbm, 56, rfl⟩
abbrev main_call3_v5 : Ref sig .tc := ⟨.hbm, 57, rfl⟩
abbrev main_call3_c_1 : Ref sig .tc := ⟨.hbm, 58, rfl⟩
abbrev main_call3_c_2 : Ref sig .tc := ⟨.hbm, 59, rfl⟩
abbrev main_call3_v6 : Ref sig .tc := ⟨.hbm, 60, rfl⟩
abbrev main_call3_v7 : Ref sig .tc := ⟨.hbm, 61, rfl⟩
abbrev main_call3_v8 : Ref sig .tc := ⟨.hbm, 62, rfl⟩
abbrev main_call3_v9 : Ref sig .tc := ⟨.hbm, 63, rfl⟩
abbrev main_call3_v10 : Ref sig .tc := ⟨.hbm, 64, rfl⟩
abbrev main_call3_v11 : Ref sig .tc := ⟨.hbm, 65, rfl⟩
abbrev main_call3_c_3 : Ref sig .tc := ⟨.hbm, 66, rfl⟩
abbrev main_call3_v12 : Ref sig .tc := ⟨.hbm, 67, rfl⟩
abbrev main_call3_v13 : Ref sig .tc := ⟨.hbm, 68, rfl⟩
abbrev main_call3_cst : Ref sig .tc := ⟨.hbm, 69, rfl⟩
abbrev main_call3_v14 : Ref sig .tc := ⟨.hbm, 70, rfl⟩
abbrev main_v10 : Ref sig .tc := ⟨.hbm, 71, rfl⟩
abbrev main_v11 : Ref sig .tc := ⟨.hbm, 72, rfl⟩
abbrev main_v12 : Ref sig .tc := ⟨.hbm, 73, rfl⟩
abbrev main_cst : Ref sig .tc := ⟨.hbm, 74, rfl⟩
abbrev main_v13 : Ref sig .tc := ⟨.hbm, 75, rfl⟩
abbrev main_v14 : Ref sig .tc := ⟨.hbm, 76, rfl⟩
abbrev main_cst_5 : Ref sig .tc := ⟨.hbm, 77, rfl⟩
abbrev main_v15 : Ref sig .tc := ⟨.hbm, 78, rfl⟩
abbrev main_v16 : Ref sig .tc := ⟨.hbm, 79, rfl⟩
abbrev main_v17 : Ref sig .tc := ⟨.hbm, 80, rfl⟩
abbrev main_v18 : Ref sig .tc := ⟨.hbm, 81, rfl⟩
abbrev main_v19 : Ref sig .tc := ⟨.hbm, 82, rfl⟩
abbrev main_cst_6 : Ref sig .tc := ⟨.hbm, 83, rfl⟩
abbrev main_v20 : Ref sig .tc := ⟨.hbm, 84, rfl⟩
abbrev main_cst_7 : Ref sig .tc := ⟨.hbm, 85, rfl⟩
abbrev main_v21 : Ref sig .tc := ⟨.hbm, 86, rfl⟩
abbrev main_call4_cst : Ref sig .tc := ⟨.hbm, 87, rfl⟩
abbrev main_call4_v0 : Ref sig .tc := ⟨.hbm, 88, rfl⟩
abbrev main_call4_cst_0 : Ref sig .tc := ⟨.hbm, 89, rfl⟩
abbrev main_call4_v1 : Ref sig .tc := ⟨.hbm, 90, rfl⟩
abbrev main_call4_v2 : Ref sig .tc := ⟨.hbm, 91, rfl⟩
abbrev main_call4_v3 : Ref sig .tc := ⟨.hbm, 92, rfl⟩
abbrev main_call4_v4 : Ref sig .tc := ⟨.hbm, 93, rfl⟩
abbrev main_call4_v5 : Ref sig .tc := ⟨.hbm, 94, rfl⟩
abbrev main_call4_v6 : Ref sig .tc := ⟨.hbm, 95, rfl⟩
abbrev main_call4_cst_1 : Ref sig .tc := ⟨.hbm, 96, rfl⟩
abbrev main_call4_v7 : Ref sig .tc := ⟨.hbm, 97, rfl⟩
abbrev main_call4_v8 : Ref sig .tc := ⟨.hbm, 98, rfl⟩
abbrev main_call4_v9 : Ref sig .tc := ⟨.hbm, 99, rfl⟩
abbrev main_call4_v10 : Ref sig .tc := ⟨.hbm, 100, rfl⟩
abbrev main_v22 : Ref sig .tc := ⟨.hbm, 101, rfl⟩
abbrev main_c_8 : Ref sig .tc := ⟨.hbm, 102, rfl⟩
abbrev main_c_9 : Ref sig .tc := ⟨.hbm, 103, rfl⟩
abbrev main_call5_v0 : Ref sig .tc := ⟨.hbm, 104, rfl⟩
abbrev main_call5_v1 : Ref sig .tc := ⟨.hbm, 105, rfl⟩
abbrev main_call5_v2 : Ref sig .tc := ⟨.hbm, 106, rfl⟩
abbrev main_call5_v3 : Ref sig .tc := ⟨.hbm, 107, rfl⟩
abbrev main_call5_v4 : Ref sig .tc := ⟨.hbm, 108, rfl⟩
abbrev main_v23 : Ref sig .tc := ⟨.hbm, 109, rfl⟩
abbrev main_v24 : Ref sig .tc := ⟨.hbm, 110, rfl⟩
abbrev main_call6_c : Ref sig .tc := ⟨.hbm, 111, rfl⟩
abbrev main_call6_v0 : Ref sig .tc := ⟨.hbm, 112, rfl⟩
abbrev main_call6_v1 : Ref sig .tc := ⟨.hbm, 113, rfl⟩
abbrev main_call6_c_0 : Ref sig .tc := ⟨.hbm, 114, rfl⟩
abbrev main_call6_v2 : Ref sig .tc := ⟨.hbm, 115, rfl⟩
abbrev main_call6_v3 : Ref sig .tc := ⟨.hbm, 116, rfl⟩
abbrev main_call6_v4 : Ref sig .tc := ⟨.hbm, 117, rfl⟩
abbrev main_call6_v5 : Ref sig .tc := ⟨.hbm, 118, rfl⟩
abbrev main_call6_c_1 : Ref sig .tc := ⟨.hbm, 119, rfl⟩
abbrev main_call6_c_2 : Ref sig .tc := ⟨.hbm, 120, rfl⟩
abbrev main_call6_v6 : Ref sig .tc := ⟨.hbm, 121, rfl⟩
abbrev main_call6_v7 : Ref sig .tc := ⟨.hbm, 122, rfl⟩
abbrev main_call6_v8 : Ref sig .tc := ⟨.hbm, 123, rfl⟩
abbrev main_call6_v9 : Ref sig .tc := ⟨.hbm, 124, rfl⟩
abbrev main_call6_v10 : Ref sig .tc := ⟨.hbm, 125, rfl⟩
abbrev main_call6_v11 : Ref sig .tc := ⟨.hbm, 126, rfl⟩
abbrev main_call6_c_3 : Ref sig .tc := ⟨.hbm, 127, rfl⟩
abbrev main_call6_v12 : Ref sig .tc := ⟨.hbm, 128, rfl⟩
abbrev main_call6_v13 : Ref sig .tc := ⟨.hbm, 129, rfl⟩
abbrev main_call6_cst : Ref sig .tc := ⟨.hbm, 130, rfl⟩
abbrev main_call6_v14 : Ref sig .tc := ⟨.hbm, 131, rfl⟩
abbrev main_v25 : Ref sig .tc := ⟨.hbm, 132, rfl⟩
abbrev main_v26 : Ref sig .tc := ⟨.hbm, 133, rfl⟩
abbrev main_v27 : Ref sig .tc := ⟨.hbm, 134, rfl⟩
abbrev main_cst_10 : Ref sig .tc := ⟨.hbm, 135, rfl⟩
abbrev main_v28 : Ref sig .tc := ⟨.hbm, 136, rfl⟩
abbrev main_v29 : Ref sig .tc := ⟨.hbm, 137, rfl⟩
abbrev main_cst_11 : Ref sig .tc := ⟨.hbm, 138, rfl⟩
abbrev main_v30 : Ref sig .tc := ⟨.hbm, 139, rfl⟩
abbrev main_v31 : Ref sig .tc := ⟨.hbm, 140, rfl⟩
abbrev main_v32 : Ref sig .tc := ⟨.hbm, 141, rfl⟩
abbrev main_v33 : Ref sig .tc := ⟨.hbm, 142, rfl⟩
abbrev main_v34 : Ref sig .tc := ⟨.hbm, 143, rfl⟩
abbrev main_cst_12 : Ref sig .tc := ⟨.hbm, 144, rfl⟩
abbrev main_v35 : Ref sig .tc := ⟨.hbm, 145, rfl⟩
abbrev main_cst_13 : Ref sig .tc := ⟨.hbm, 146, rfl⟩
abbrev main_v36 : Ref sig .tc := ⟨.hbm, 147, rfl⟩
abbrev main_v37 : Ref sig .tc := ⟨.hbm, 148, rfl⟩
abbrev main_v38 : Ref sig .tc := ⟨.hbm, 149, rfl⟩
abbrev main_cst_14 : Ref sig .tc := ⟨.hbm, 150, rfl⟩
abbrev main_v39 : Ref sig .tc := ⟨.hbm, 151, rfl⟩
abbrev main_v40 : Ref sig .tc := ⟨.hbm, 152, rfl⟩
abbrev main_cst_15 : Ref sig .tc := ⟨.hbm, 153, rfl⟩
abbrev main_v41 : Ref sig .tc := ⟨.hbm, 154, rfl⟩
abbrev main_v42 : Ref sig .tc := ⟨.hbm, 155, rfl⟩
abbrev main_v43 : Ref sig .tc := ⟨.hbm, 156, rfl⟩
abbrev main_cst_16 : Ref sig .tc := ⟨.hbm, 157, rfl⟩
abbrev main_v44 : Ref sig .tc := ⟨.hbm, 158, rfl⟩
abbrev main_v45 : Ref sig .tc := ⟨.hbm, 159, rfl⟩
abbrev main_cst_17 : Ref sig .tc := ⟨.hbm, 160, rfl⟩
abbrev main_v46 : Ref sig .tc := ⟨.hbm, 161, rfl⟩
abbrev main_v47 : Ref sig .tc := ⟨.hbm, 162, rfl⟩
abbrev main_v48 : Ref sig .tc := ⟨.hbm, 163, rfl⟩
abbrev main_cst_18 : Ref sig .tc := ⟨.hbm, 164, rfl⟩
abbrev main_v49 : Ref sig .tc := ⟨.hbm, 165, rfl⟩
abbrev main_v50 : Ref sig .tc := ⟨.hbm, 166, rfl⟩
abbrev main_cst_19 : Ref sig .tc := ⟨.hbm, 167, rfl⟩
abbrev main_v51 : Ref sig .tc := ⟨.hbm, 168, rfl⟩
abbrev main_cst_20 : Ref sig .tc := ⟨.hbm, 169, rfl⟩
abbrev main_v52 : Ref sig .tc := ⟨.hbm, 170, rfl⟩
abbrev main_cst_21 : Ref sig .tc := ⟨.hbm, 171, rfl⟩
abbrev main_v53 : Ref sig .tc := ⟨.hbm, 172, rfl⟩
abbrev main_cst_22 : Ref sig .tc := ⟨.hbm, 173, rfl⟩
abbrev main_v54 : Ref sig .tc := ⟨.hbm, 174, rfl⟩
abbrev main_cst_23 : Ref sig .tc := ⟨.hbm, 175, rfl⟩
abbrev main_v55 : Ref sig .tc := ⟨.hbm, 176, rfl⟩
abbrev main_v56 : Ref sig .tc := ⟨.hbm, 177, rfl⟩
abbrev main_v57 : Ref sig .tc := ⟨.hbm, 178, rfl⟩
abbrev main_v58 : Ref sig .tc := ⟨.hbm, 179, rfl⟩
abbrev main_v59 : Ref sig .tc := ⟨.hbm, 180, rfl⟩
abbrev main_v60 : Ref sig .tc := ⟨.hbm, 181, rfl⟩
abbrev main_v61 : Ref sig .tc := ⟨.hbm, 182, rfl⟩
abbrev main_v62 : Ref sig .tc := ⟨.hbm, 183, rfl⟩
abbrev main_v63 : Ref sig .tc := ⟨.hbm, 184, rfl⟩
abbrev main_v64 : Ref sig .tc := ⟨.hbm, 185, rfl⟩
abbrev main_v65 : Ref sig .tc := ⟨.hbm, 186, rfl⟩
abbrev main_v66 : Ref sig .tc := ⟨.hbm, 187, rfl⟩
abbrev main_v67 : Ref sig .tc := ⟨.hbm, 188, rfl⟩

abbrev nD : Nat := 1
abbrev τ : Topo := Topo.v7x

variable {F : FTy → Type} [FloatOps F]
-- ==== Proof.KAcc.lean ====
/- What the kernel's three accumulators hold: the region's output arrays as sums over the grid's points. -/
module

public import proofs.«01_k».proof.Proof.Gen.KernelIdeal.Frame
public import Idealize.ShloMosaic.Lib.Pipeline.Value

@[expose] public section

noncomputable section

namespace Cert.KAcc

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The zero offset of a rank-two access. -/
theorem off2 : (![0, 0] : Fin 2 → Nat) = fun _ => 0 := funext fun a => by fin_cases a <;> rfl

/-- The zero offset of a rank-three access. -/
theorem off3 : (![0, 0, 0] : Fin 3 → Nat) = fun _ => 0 := funext fun a => by fin_cases a <;> rfl

/-- One point's class-loss accumulator over what it held before. -/
def stepCls (c : Dev nD) (t : Fin cfg0.N) (a : Vec F S1x8192 .f32) : Vec F S1x8192 .f32 :=
  k0_pay4 (k0_pay7 (iblk m c 0 t) (iblk m c 1 t)) (k0_pay8 (iblk m c 2 t)) a

/-- One point's objectness accumulator over what it held before. -/
def stepObj (c : Dev nD) (t : Fin cfg0.N) (a : Vec F S1x16384 .f32) : Vec F S1x16384 .f32 :=
  k0_pay5 (k0_pay12 (k0_pay9 (iblk m c 3 t)) (k0_pay10 (iblk m c 4 t)) (k0_pay11 (iblk m c 3 t)))
    (k0_pay13 (F := F) (k0_pay10 (iblk m c 4 t))) a

/-- One point's box-loss accumulator over what it held before. -/
def stepBb (c : Dev nD) (t : Fin cfg0.N) (a : Vec F S1x32768 .f32) : Vec F S1x32768 .f32 :=
  k0_pay6 (k0_pay14 (iblk m c 5 t) (iblk m c 6 t)) (k0_pay15 (iblk m c 5 t) (iblk m c 6 t)) (k0_pay16 (F := F))
    (iblk m c 7 t) a

/-- At the first point the accumulators are one step over the zero blocks. -/
theorem outs_first (c : Dev nD) (t : Fin cfg0.N) (h0 : t.val % 32 = 0) :
    outsAt0 m c t.val t.isLt = (stepCls m c t (k0_pay1 (F := F)), stepObj m c t (k0_pay2 (F := F)), stepBb m c t (k0_pay3 (F := F))) := by
  rw [outsAt0_A m c t h0]
  refine Prod.ext ?_ (Prod.ext ?_ ?_) <;> dsimp only
  · unfold out0_A_8
    rw [View.read_writes_eq_canon _ _ _ (fun _ => cover0_A_8 ..)]
    unfold kernelRun0_A
    dsimp only
    try sl_unfold_words
    rw [View.canon_cons_unit_zero (S := S1x8192) off2, View.readCov_unit_zero (S := S1x8192) _ off2]
    simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread,
      View.ld_unit_zero (S := S1x1x8192) off3, View.ld_unit_zero (S := S8192x80) off2, View.ld_unit_zero (S := S1x8192) off2]
    rfl
  · unfold out0_A_9
    rw [View.read_writes_eq_canon _ _ _ (fun _ => cover0_A_9 ..)]
    unfold kernelRun0_A
    dsimp only
    try sl_unfold_words
    rw [View.canon_cons_unit_zero (S := S1x16384) off2, View.readCov_unit_zero (S := S1x16384) _ off2]
    simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread,
      View.ld_unit_zero (S := S1x1x16384) off3, View.ld_unit_zero (S := S1x16384) off2]
    rfl
  · unfold out0_A_10
    rw [View.read_writes_eq_canon _ _ _ (fun _ => cover0_A_10 ..)]
    unfold kernelRun0_A
    dsimp only
    try sl_unfold_words
    rw [View.canon_cons_unit_zero (S := S1x32768) off2, View.readCov_unit_zero (S := S1x32768) _ off2]
    simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread,
      View.ld_unit_zero (S := S1x1x32768) off3, View.ld_unit_zero (S := S1x32768) off2]
    rfl

/-- At a later point the accumulators are one step over what the point before left. -/
theorem outs_next (c : Dev nD) (t : Fin cfg0.N) (h0 : ¬t.val % 32 = 0) (h1 : t.val - 1 < cfg0.N) :
    outsAt0 m c t.val t.isLt = (stepCls m c t (outsAt0 m c (t.val - 1) h1).1, stepObj m c t (outsAt0 m c (t.val - 1) h1).2.1,
      stepBb m c t (outsAt0 m c (t.val - 1) h1).2.2) := by
  rw [outsAt0_B m c t h0]
  refine Prod.ext ?_ (Prod.ext ?_ ?_) <;> dsimp only
  · unfold out0_B_8
    rw [View.read_writes_eq_canon _ _ _ (fun _ => cover0_B_8 ..)]
    unfold kernelRun0_B
    dsimp only
    try sl_unfold_words
    rw [View.canon_unit_zero off2]
    simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread, (hs0_8 t).read_unread,
      (hs0_9 t).read_unread, (hs0_10 t).read_unread,
      View.ld_unit_zero (S := S1x1x8192) off3, View.ld_unit_zero (S := S8192x80) off2, View.ld_unit_zero (S := S1x8192) off2]
    rfl
  · unfold out0_B_9
    rw [View.read_writes_eq_canon _ _ _ (fun _ => cover0_B_9 ..)]
    unfold kernelRun0_B
    dsimp only
    try sl_unfold_words
    rw [View.canon_unit_zero off2]
    simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread, (hs0_8 t).read_unread,
      (hs0_9 t).read_unread, (hs0_10 t).read_unread,
      View.ld_unit_zero (S := S1x1x16384) off3, View.ld_unit_zero (S := S1x16384) off2]
    rfl
  · unfold out0_B_10
    rw [View.read_writes_eq_canon _ _ _ (fun _ => cover0_B_10 ..)]
    unfold kernelRun0_B
    dsimp only
    try sl_unfold_words
    rw [View.canon_unit_zero off2]
    simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread, (hs0_8 t).read_unread,
      (hs0_9 t).read_unread, (hs0_10 t).read_unread,
      View.ld_unit_zero (S := S1x1x32768) off3, View.ld_unit_zero (S := S1x32768) off2]
    rfl

/-- The grid's last point. -/
abbrev last : Fin cfg0.N := ⟨31, by decide⟩

/-- Every block of the class-loss array is the whole array. -/
theorem index_cls : ∀ t : Fin cfg0.N, win0_8.index t (0 : Fin 2) = 0 ∧ win0_8.index t (1 : Fin 2) = 0 :=
  (by decide +kernel : ∀ t : Fin grid0.N, _)

/-- What a point writes back of a buffer is the buffer, read as the class-loss array's block. -/
theorem cut_cls (c : Dev nD) (t : Fin cfg0.N) (G : Vec F S1x8192 .f32) :
    (cfg0.win 8).cut (grid0.coords t) G = ((cfg0.win 8).blk t).view.read (Elt F) (G : Buf (Elt F) ((c : Thread nD τ).loc main_v11_0)) := by
  obtain ⟨e0, e1⟩ := index_cls t
  funext y
  have hb0 : (((cfg0.win 8).blk t).view.emb y 0).val = win0_8.index t (0 : Fin 2) * 1 + 1 * (y 0).val := rfl
  have hb1 : (((cfg0.win 8).blk t).view.emb y 1).val = win0_8.index t (1 : Fin 2) * 8192 + 1 * (y 1).val := rfl
  have hl : (cfg0.win 8).xinj (grid0.coords t) y = ((cfg0.win 8).blk t).view.emb y := by
    funext a; apply Fin.ext
    match a with
    | ⟨0, _⟩ => show (y 0).val = (((cfg0.win 8).blk t).view.emb y 0).val; rw [hb0, e0]; omega
    | ⟨1, _⟩ => show (y 1).val = (((cfg0.win 8).blk t).view.emb y 1).val; rw [hb1, e1]; omega
  show G ((cfg0.win 8).xinj (grid0.coords t) y) = G (((cfg0.win 8).blk t).view.emb y)
  rw [hl]

/-- After the region the class-loss array holds what the last point left. -/
theorem final_cls (c : Dev nD) : (dats m 0 c).arrAt 8 cfg0.N = (outsAt0 m c 31 last.isLt).1 := by
  refine (dats m 0 c).arrAt_eq_of_cover 8 _ (fun t hf => ?_) (fun i => ⟨last, (flush0_8 last).mpr rfl, ?_⟩)
  · have e : t = last := Fin.ext (by have := (flush0_8 t).mp hf; have := lt_of_lt_of_eq t.isLt (show cfg0.N = 32 from N_0); show t.val = 31; omega)
    subst e
    show (cfg0.win 8).cut (grid0.coords last) ((dats m 0 c).after 8 last) = _
    rw [after0_8]
    exact cut_cls c last _
  · obtain ⟨e0, e1⟩ := index_cls last
    show i ∈ ((View.whole main_v11_0).slice (win0_8.rect last)).set
    rw [View.set_slice_whole, Rect.mem_set_unit]
    have h0 : (i 0).val < 1 := (i 0).isLt
    have h1 : (i 1).val < 8192 := (i 1).isLt
    intro a
    match a with
    | ⟨0, _⟩ => show win0_8.index last (0 : Fin 2) * 1 ≤ (i 0).val ∧ (i 0).val < win0_8.index last (0 : Fin 2) * 1 + 1; omega
    | ⟨1, _⟩ => show win0_8.index last (1 : Fin 2) * 8192 ≤ (i 1).val ∧ (i 1).val < win0_8.index last (1 : Fin 2) * 8192 + 8192; omega

/-- Every block of the objectness-loss array is the whole array. -/
theorem index_obj : ∀ t : Fin cfg0.N, win0_9.index t (0 : Fin 2) = 0 ∧ win0_9.index t (1 : Fin 2) = 0 :=
  (by decide +kernel : ∀ t : Fin grid0.N, _)

/-- What a point writes back of a buffer is the buffer, read as the objectness-loss array's block. -/
theorem cut_obj (c : Dev nD) (t : Fin cfg0.N) (G : Vec F S1x16384 .f32) :
    (cfg0.win 9).cut (grid0.coords t) G = ((cfg0.win 9).blk t).view.read (Elt F) (G : Buf (Elt F) ((c : Thread nD τ).loc main_v11_1)) := by
  obtain ⟨e0, e1⟩ := index_obj t
  funext y
  have hb0 : (((cfg0.win 9).blk t).view.emb y 0).val = win0_9.index t (0 : Fin 2) * 1 + 1 * (y 0).val := rfl
  have hb1 : (((cfg0.win 9).blk t).view.emb y 1).val = win0_9.index t (1 : Fin 2) * 16384 + 1 * (y 1).val := rfl
  have hl : (cfg0.win 9).xinj (grid0.coords t) y = ((cfg0.win 9).blk t).view.emb y := by
    funext a; apply Fin.ext
    match a with
    | ⟨0, _⟩ => show (y 0).val = (((cfg0.win 9).blk t).view.emb y 0).val; rw [hb0, e0]; omega
    | ⟨1, _⟩ => show (y 1).val = (((cfg0.win 9).blk t).view.emb y 1).val; rw [hb1, e1]; omega
  show G ((cfg0.win 9).xinj (grid0.coords t) y) = G (((cfg0.win 9).blk t).view.emb y)
  rw [hl]

/-- After the region the objectness-loss array holds what the last point left. -/
theorem final_obj (c : Dev nD) : (dats m 0 c).arrAt 9 cfg0.N = (outsAt0 m c 31 last.isLt).2.1 := by
  refine (dats m 0 c).arrAt_eq_of_cover 9 _ (fun t hf => ?_) (fun i => ⟨last, (flush0_9 last).mpr rfl, ?_⟩)
  · have e : t = last := Fin.ext (by have := (flush0_9 t).mp hf; have := lt_of_lt_of_eq t.isLt (show cfg0.N = 32 from N_0); show t.val = 31; omega)
    subst e
    show (cfg0.win 9).cut (grid0.coords last) ((dats m 0 c).after 9 last) = _
    rw [after0_9]
    exact cut_obj c last _
  · obtain ⟨e0, e1⟩ := index_obj last
    show i ∈ ((View.whole main_v11_1).slice (win0_9.rect last)).set
    rw [View.set_slice_whole, Rect.mem_set_unit]
    have h0 : (i 0).val < 1 := (i 0).isLt
    have h1 : (i 1).val < 16384 := (i 1).isLt
    intro a
    match a with
    | ⟨0, _⟩ => show win0_9.index last (0 : Fin 2) * 1 ≤ (i 0).val ∧ (i 0).val < win0_9.index last (0 : Fin 2) * 1 + 1; omega
    | ⟨1, _⟩ => show win0_9.index last (1 : Fin 2) * 16384 ≤ (i 1).val ∧ (i 1).val < win0_9.index last (1 : Fin 2) * 16384 + 16384; omega

/-- Every block of the box-loss array is the whole array. -/
theorem index_bb : ∀ t : Fin cfg0.N, win0_10.index t (0 : Fin 2) = 0 ∧ win0_10.index t (1 : Fin 2) = 0 :=
  (by decide +kernel : ∀ t : Fin grid0.N, _)

/-- What a point writes back of a buffer is the buffer, read as the box-loss array's block. -/
theorem cut_bb (c : Dev nD) (t : Fin cfg0.N) (G : Vec F S1x32768 .f32) :
    (cfg0.win 10).cut (grid0.coords t) G = ((cfg0.win 10).blk t).view.read (Elt F) (G : Buf (Elt F) ((c : Thread nD τ).loc main_v11_2)) := by
  obtain ⟨e0, e1⟩ := index_bb t
  funext y
  have hb0 : (((cfg0.win 10).blk t).view.emb y 0).val = win0_10.index t (0 : Fin 2) * 1 + 1 * (y 0).val := rfl
  have hb1 : (((cfg0.win 10).blk t).view.emb y 1).val = win0_10.index t (1 : Fin 2) * 32768 + 1 * (y 1).val := rfl
  have hl : (cfg0.win 10).xinj (grid0.coords t) y = ((cfg0.win 10).blk t).view.emb y := by
    funext a; apply Fin.ext
    match a with
    | ⟨0, _⟩ => show (y 0).val = (((cfg0.win 10).blk t).view.emb y 0).val; rw [hb0, e0]; omega
    | ⟨1, _⟩ => show (y 1).val = (((cfg0.win 10).blk t).view.emb y 1).val; rw [hb1, e1]; omega
  show G ((cfg0.win 10).xinj (grid0.coords t) y) = G (((cfg0.win 10).blk t).view.emb y)
  rw [hl]

/-- After the region the box-loss array holds what the last point left. -/
theorem final_bb (c : Dev nD) : (dats m 0 c).arrAt 10 cfg0.N = (outsAt0 m c 31 last.isLt).2.2 := by
  refine (dats m 0 c).arrAt_eq_of_cover 10 _ (fun t hf => ?_) (fun i => ⟨last, (flush0_10 last).mpr rfl, ?_⟩)
  · have e : t = last := Fin.ext (by have := (flush0_10 t).mp hf; have := lt_of_lt_of_eq t.isLt (show cfg0.N = 32 from N_0); show t.val = 31; omega)
    subst e
    show (cfg0.win 10).cut (grid0.coords last) ((dats m 0 c).after 10 last) = _
    rw [after0_10]
    exact cut_bb c last _
  · obtain ⟨e0, e1⟩ := index_bb last
    show i ∈ ((View.whole main_v11_2).slice (win0_10.rect last)).set
    rw [View.set_slice_whole, Rect.mem_set_unit]
    have h0 : (i 0).val < 1 := (i 0).isLt
    have h1 : (i 1).val < 32768 := (i 1).isLt
    intro a
    match a with
    | ⟨0, _⟩ => show win0_10.index last (0 : Fin 2) * 1 ≤ (i 0).val ∧ (i 0).val < win0_10.index last (0 : Fin 2) * 1 + 1; omega
    | ⟨1, _⟩ => show win0_10.index last (1 : Fin 2) * 32768 ≤ (i 1).val ∧ (i 1).val < win0_10.index last (1 : Fin 2) * 32768 + 32768; omega

end Cert.KAcc
end
-- ==== Proof.Spec.lean ====
/- The three losses as sums over the samples, and the extended-real facts the two programs differ by. -/
module

public import Idealize.ShloMosaic.Lib.Pointwise
public import Idealize.ShloMosaic.Lib.IdealHost
public import Idealize.ShloMosaic.Lib.ValueIdxRank1
public import Idealize.ShloMosaic.Lib.SortNet.Extract

@[expose] public section

noncomputable section

namespace Cert.Spec

open Idealize.ShloMosaic

/-! ## The samples' terms -/

abbrev SBox : Shape := ⟨2, ![262144, 4]⟩
abbrev SCls : Shape := ⟨2, ![262144, 80]⟩
abbrev SObj : Shape := ⟨2, ![262144, 2]⟩
abbrev SLab : Shape := ⟨1, ![262144]⟩

/-- The log-probability the scores `v` give to entry `j`. -/
def logp {n : Nat} (v : Fin n → EReal) (j : Fin n) : EReal := v j - Ideal.log (∑ c, Ideal.exp (v c))

/-- The focal loss of a log-probability. -/
def focal (z : EReal) : EReal := (0 - (1 - Ideal.exp z)) * (1 - Ideal.exp z) * z

/-- One when the flag holds, zero otherwise. -/
def ind (p : Prop) [Decidable p] : EReal := if p then 1 else 0

/-- The smooth L1 distance of a difference. -/
def sl1 (d : EReal) : EReal :=
  if FloatOps.absf (F := Ideal) (φ := .f32) d < Ideal.ofBits .f32 1036831949#32 then
    Ideal.div (Ideal.ofBits .f32 1056964608#32 * FloatOps.absf (F := Ideal) (φ := .f32) d * FloatOps.absf (F := Ideal) (φ := .f32) d)
      (Ideal.ofBits .f32 1036831949#32)
  else FloatOps.absf (F := Ideal) (φ := .f32) d - Ideal.ofBits .f32 1028443341#32

/-- The class a label names. -/
def clsIdx (w : BitVec 32) : Fin 80 := ⟨w.toNat % 80, Nat.mod_lt _ (by decide)⟩

/-- The objectness entry a target names. -/
def objIdx (g : BitVec 32) : Fin 2 := if g.toInt ≤ 0 then 0 else 1

/-- A sample's class loss. -/
def clsTerm (x : SCls.Idx → EReal) (lab g : SLab.Idx → BitVec 32) (n : Fin 262144) : EReal :=
  focal (logp (fun c => x (ix2 n c)) (clsIdx (lab (ix1 n)))) * ind (g (ix1 n) = 1#32)

/-- A sample's objectness loss. -/
def objTerm (x : SObj.Idx → EReal) (g : SLab.Idx → BitVec 32) (n : Fin 262144) : EReal :=
  focal (logp (fun c => x (ix2 n c)) (objIdx (g (ix1 n)))) * ind (g (ix1 n) ≠ 4294967295#32)

/-- A sample's box loss. -/
def bbTerm (a b : SBox.Idx → EReal) (g : SLab.Idx → BitVec 32) (n : Fin 262144) : EReal :=
  (∑ k : Fin 4, sl1 (a (ix2 n k) - b (ix2 n k))) * ind (g (ix1 n) = 1#32)

/-! ## Exponentials and logarithms -/

/-- An exponential is not negative. -/
theorem exp_nonneg (x : EReal) : 0 ≤ Ideal.exp x := by
  induction x using EReal.rec with
  | bot => exact le_rfl
  | top => exact le_top
  | coe r => exact EReal.coe_nonneg.mpr (Real.exp_pos r).le

/-- A sum of non-negative terms one of which is infinite is infinite. -/
theorem sum_top {n : Nat} (f : Fin n → EReal) (hf : ∀ c, 0 ≤ f c) (j : Fin n) (hj : f j = ⊤) : ∑ c, f c = ⊤ :=
  top_le_iff.mp (hj ▸ Finset.single_le_sum (fun c _ => hf c) (Finset.mem_univ j))

/-- A sum of real numbers, taken among the extended reals. -/
theorem coe_sum {n : Nat} (f : Fin n → ℝ) : ∑ c, ((f c : ℝ) : EReal) = ((∑ c, f c : ℝ) : EReal) := by
  induction n with
  | zero => simp
  | succ n ih => rw [Fin.sum_univ_succ, Fin.sum_univ_succ, ih, EReal.coe_add]

/-- A score that is not `⊤` has a real exponential: that of a real number, or zero. -/
theorem exp_real (x : EReal) (h : x ≠ ⊤) : ∃ r : ℝ, 0 ≤ r ∧ Ideal.exp x = (r : EReal) := by
  induction x using EReal.rec with
  | bot => exact ⟨0, le_rfl, rfl⟩
  | top => exact absurd rfl h
  | coe r => exact ⟨Real.exp r, (Real.exp_pos r).le, rfl⟩

/-- The exponential of a score less a real number is the score's exponential over that of the number. -/
theorem exp_sub_real (x : EReal) (r : ℝ) (e : ℝ) (h : Ideal.exp x = (e : EReal)) :
    Ideal.exp (x - (r : EReal)) = ((e * Real.exp (-r) : ℝ) : EReal) := by
  induction x using EReal.rec with
  | bot =>
    have e0 : e = 0 := by
      have : ((0 : ℝ) : EReal) = (e : EReal) := h
      exact (EReal.coe_eq_coe_iff.mp this).symm
    rw [EReal.bot_sub, e0, zero_mul]; rfl
  | top => exact absurd h (EReal.coe_ne_top e).symm
  | coe s =>
    have e0 : Real.exp s = e := EReal.coe_eq_coe_iff.mp h
    rw [← EReal.coe_sub, ← e0, ← Real.exp_add]
    rfl

/-- The logarithm of a positive real number. -/
theorem log_real {r : ℝ} (h : 0 < r) : Ideal.log (r : EReal) = (Real.log r : EReal) := by
  show (if r ≤ 0 then (⊥ : EReal) else (Real.log r : EReal)) = _
  rw [if_neg (not_le.mpr h)]

/-- Taking the largest score from every score leaves every log-probability as it is. -/
theorem logp_shift {n : Nat} (v : Fin n → EReal) (M : EReal) (hle : ∀ c, v c ≤ M) (hM : M = ⊥ ∨ ∃ c, v c = M) (j : Fin n) :
    (v j - M) - Ideal.log (∑ c, Ideal.exp (v c - M)) = logp v j := by
  unfold logp
  induction M using EReal.rec with
  | bot =>
    have hj : v j = ⊥ := le_bot_iff.mp (hle j)
    rw [hj, EReal.bot_sub, EReal.bot_sub, EReal.bot_sub]
  | top =>
    obtain ⟨c0, h0⟩ := hM.resolve_left (by simp)
    have hs : ∑ c, Ideal.exp (v c) = ⊤ := sum_top _ (fun c => exp_nonneg _) c0 (by rw [h0]; rfl)
    rw [hs, show Ideal.log ⊤ = ⊤ from rfl, EReal.sub_top, EReal.bot_sub]
  | coe r =>
    obtain ⟨c0, h0⟩ := hM.resolve_left (by simp)
    have hnt : ∀ c, v c ≠ ⊤ := fun c h => absurd (h ▸ hle c) (not_le.mpr (EReal.coe_lt_top r))
    choose e he0 he using fun c => exp_real (v c) (hnt c)
    have hc0 : 0 < e c0 := by
      have h1 := he c0
      rw [h0] at h1
      have h2 : Real.exp r = e c0 := EReal.coe_eq_coe_iff.mp h1
      rw [← h2]; exact Real.exp_pos r
    have hS : 0 < ∑ c, e c := lt_of_lt_of_le hc0 (Finset.single_le_sum (fun c _ => he0 c) (Finset.mem_univ c0))
    have h1 : ∑ c, Ideal.exp (v c) = ((∑ c, e c : ℝ) : EReal) := by
      rw [← coe_sum]; exact Finset.sum_congr rfl fun c _ => he c
    have h2 : ∑ c, Ideal.exp (v c - (r : EReal)) = (((∑ c, e c) * Real.exp (-r) : ℝ) : EReal) := by
      rw [Finset.sum_mul, ← coe_sum]; exact Finset.sum_congr rfl fun c _ => exp_sub_real _ _ _ (he c)
    rw [h1, h2, log_real hS, log_real (mul_pos hS (Real.exp_pos _)), Real.log_mul hS.ne' (Real.exp_pos _).ne', Real.log_exp]
    generalize hx : v j = x
    induction x using EReal.rec with
    | bot => rw [EReal.bot_sub, EReal.bot_sub, EReal.bot_sub]
    | top => exact absurd hx (hnt j)
    | coe s =>
      rw [← EReal.coe_sub, ← EReal.coe_sub, ← EReal.coe_sub]
      congr 1
      ring

/-- A log-probability is never `⊤`. -/
theorem logp_ne_top {n : Nat} (v : Fin n → EReal) (j : Fin n) : logp v j ≠ ⊤ := by
  unfold logp
  generalize hx : v j = x
  induction x using EReal.rec with
  | bot => rw [EReal.bot_sub]; exact bot_ne_top
  | top =>
    have hs : ∑ c, Ideal.exp (v c) = ⊤ := sum_top _ (fun c => exp_nonneg _) j (by rw [hx]; rfl)
    rw [hs, show Ideal.log ⊤ = ⊤ from rfl, EReal.sub_top]; exact bot_ne_top
  | coe s =>
    have hpos : (0 : EReal) < ∑ c, Ideal.exp (v c) :=
      lt_of_lt_of_le (by rw [hx]; exact EReal.coe_pos.mpr (Real.exp_pos s))
        (Finset.single_le_sum (f := fun c => Ideal.exp (v c)) (fun c _ => exp_nonneg _) (Finset.mem_univ j))
    generalize ∑ c, Ideal.exp (v c) = S at hpos
    induction S using EReal.rec with
    | bot => exact absurd hpos (not_lt.mpr bot_le)
    | top => rw [show Ideal.log ⊤ = ⊤ from rfl, EReal.sub_top]; exact bot_ne_top
    | coe t =>
      rw [log_real (EReal.coe_pos.mp hpos), ← EReal.coe_sub]; exact EReal.coe_ne_top _

/-- The word of the constant two. -/
theorem ofBits_two : Ideal.ofBits .f32 0x40000000#32 = ((2 : ℝ) : EReal) := by
  simp [Ideal.ofBits, Ideal.ieee, -EReal.coe_mul]
  norm_num

/-- The focal loss spelt with a square. -/
theorem focal_pow (z : EReal) (h : z ≠ ⊤) :
    -(Ideal.pow (1 - Ideal.exp z) (Ideal.ofBits .f32 0x40000000#32)) * z = focal z := by
  obtain ⟨r, -, hr⟩ := exp_real z h
  unfold focal
  rw [hr, ofBits_two, ← EReal.coe_one, ← EReal.coe_sub,
    show Ideal.pow ((1 - r : ℝ) : EReal) ((2 : ℝ) : EReal) = ((Real.rpow (1 - r) 2 : ℝ) : EReal) from rfl,
    show Real.rpow (1 - r) 2 = (1 - r) ^ 2 from Real.rpow_two _, ← EReal.coe_zero, ← EReal.coe_sub, ← EReal.coe_mul, ← EReal.coe_neg]
  congr 2
  ring

/-! ## Flags and one-hot sums -/

/-- A comparison's bit widened and read as a signed number. -/
theorem sitofp_ofBool (p : Prop) [Decidable p] :
    FloatOps.sitofp (F := Ideal) .f32 (BitVec.setWidth 32 (BitVec.ofBool (decide p))) = ind p := by
  unfold ind
  by_cases hp : p
  · rw [decide_eq_true hp, if_pos hp]
    show (((1 : ℤ) : ℝ) : EReal) = 1
    simp
  · rw [decide_eq_false hp, if_neg hp]
    show (((0 : ℤ) : ℝ) : EReal) = 0
    simp

/-- A comparison's bit read as an unsigned number. -/
theorem uitofp_ofBool (p : Prop) [Decidable p] :
    FloatOps.uitofp (F := Ideal) .f32 (BitVec.ofBool (decide p)) = ind p := by
  unfold ind
  by_cases hp : p
  · rw [decide_eq_true hp, if_pos hp]
    show (((1 : ℕ) : ℝ) : EReal) = 1
    simp
  · rw [decide_eq_false hp, if_neg hp]
    show (((0 : ℕ) : ℝ) : EReal) = 0
    simp

/-- A sum against a one-hot row is the entry the row marks. -/
theorem sum_onehot {n : Nat} (v : Fin n → EReal) (p : Fin n → Prop) [DecidablePred p] (j : Fin n) (hp : ∀ c, p c ↔ c = j) :
    ∑ c, v c * ind (p c) = v j := by
  rw [Finset.sum_eq_single j]
  · rw [show ind (p j) = 1 from if_pos ((hp j).mpr rfl), mul_one]
  · intro c _ hc
    rw [show ind (p c) = 0 from if_neg fun h => hc ((hp c).mp h), mul_zero]
  · exact fun h => absurd (Finset.mem_univ j) h

/-- A flag goes into a sum. -/
theorem sum_mul_ind {n : Nat} (f : Fin n → EReal) (p : Prop) [Decidable p] : (∑ c, f c) * ind p = ∑ c, f c * ind p := by
  unfold ind
  by_cases hp : p
  · simp only [if_pos hp, mul_one]
  · simp only [if_neg hp, mul_zero, Finset.sum_const_zero]

/-! ## Clipped words -/

/-- A target clipped to `[0, 1]` is the objectness entry it names. -/
theorem clip_obj (g : BitVec 32) : IntOp.minsi 1#32 (IntOp.maxsi 0#32 g) = BitVec.ofNat 32 (objIdx g).val := by
  refine BitVec.eq_of_toInt_eq ?_
  rw [SortNet.toInt_minsi, SortNet.toInt_maxsi]
  unfold objIdx
  have e0 : (0#32 : BitVec 32).toInt = 0 := by decide
  have e1 : (1#32 : BitVec 32).toInt = 1 := by decide
  by_cases h : g.toInt ≤ 0
  · rw [if_pos h]
    show min (1#32 : BitVec 32).toInt (max (0#32 : BitVec 32).toInt g.toInt) = (0#32 : BitVec 32).toInt
    rw [e0, e1]; omega
  · rw [if_neg h]
    show min (1#32 : BitVec 32).toInt (max (0#32 : BitVec 32).toInt g.toInt) = (1#32 : BitVec 32).toInt
    rw [e0, e1]; omega

/-- A label below 80 clipped to `[0, 79]` is the label. -/
theorem clip_cls (w : BitVec 32) (hw : w.toNat < 80) : IntOp.minsi 79#32 (IntOp.maxsi 0#32 w) = w := by
  refine BitVec.eq_of_toInt_eq ?_
  rw [SortNet.toInt_minsi, SortNet.toInt_maxsi]
  have e0 : (0#32 : BitVec 32).toInt = 0 := by decide
  have e1 : (79#32 : BitVec 32).toInt = 79 := by decide
  have hi : w.toInt = (w.toNat : Int) := by rw [BitVec.toInt_eq_toNat_cond]; omega
  omega

/-- A label below 80 names the class of its number. -/
theorem clsIdx_val (w : BitVec 32) (hw : w.toNat < 80) : (clsIdx w).val = w.toNat := Nat.mod_eq_of_lt hw

/-! ## Sums over the samples in blocks -/

/-- A double sum over blocks of `B` entries is the sum over all the entries. -/
theorem sum_blocks {A B N : Nat} (hN : A * B = N) (f : Fin A → Fin B → EReal) (g : Fin N → EReal)
    (h : ∀ (a : Fin A) (b : Fin B) (n : Fin N), n.val = B * a.val + b.val → f a b = g n) : ∑ a, ∑ b, f a b = ∑ n, g n := by
  subst hN
  rw [← finProdFinEquiv.sum_comp, Fintype.sum_prod_type]
  exact Finset.sum_congr rfl fun a _ => Finset.sum_congr rfl fun b _ => h a b _ (by simp [finProdFinEquiv, add_comm])

/-! ## From totals to results -/

abbrev SOne : Shape := ⟨0, ![]⟩

/-- From a loss total to a result: the mean over the samples, scaled by `k`, weighted by the learned scalar `w`. -/
def weigh (k : BitVec 32) (tot w : FVec Ideal SOne .f32) : FVec Ideal SOne .f32 :=
  addf (mulf (mulf (Host.divf tot (constant SOne .f32 0x48800000#32)) (constant SOne .f32 k)) (Host.exp (Host.negf w))) w

/-- The host's sum of a one-row array from zero is the sum over its lanes. -/
theorem sum_row {L : Nat} (x : FVec Ideal ⟨2, ![1, L]⟩ .f32) (h : Shape.ReducesTo ⟨2, ![1, L]⟩ [0, 1] SOne) (hu : 0 < SOne.numel) :
    Host.reduceAdd x (constant SOne .f32 0x00000000#32) h hu = fun _ => ∑ l : Fin L, x (ix2 0 l) := by
  funext j
  rw [ValueIdx.hostReduceAdd_apply, Ideal.hostReduceAdd_total h (fun b => b.elim0), ValueIdx.sum_idx2, Fin.sum_univ_one]
  refine ((congrArg (· + _) Ideal.ofBits_zero_f32).trans (zero_add _)).trans (Finset.sum_congr rfl fun l _ => congrArg x ?_)
  exact (ValueIdx.eq_ix2 (ix2 (0 : Fin 1) l)).symm

/-- The host's sum of a vector from zero is the sum over its entries. -/
theorem sum_vec {L : Nat} (x : FVec Ideal ⟨1, ![L]⟩ .f32) (h : Shape.ReducesTo ⟨1, ![L]⟩ [0] SOne) (hu : 0 < SOne.numel) :
    Host.reduceAdd x (constant SOne .f32 0x00000000#32) h hu = fun _ => ∑ n : Fin L, x (ix1 n) := by
  funext j
  rw [ValueIdx.hostReduceAdd_apply, Ideal.hostReduceAdd_total h (fun b => b.elim0), ← Equiv.sum_comp (ValueIdx.idxEquiv1 (n := L)).symm]
  refine ((congrArg (· + _) Ideal.ofBits_zero_f32).trans (zero_add _)).trans (Finset.sum_congr rfl fun n _ => congrArg x ?_)
  exact (ValueIdx.eq_ix1 (ix1 n)).symm

end Cert.Spec
end
-- ==== Proof.KVal.lean ====
/- The kernel's payloads at an index: each point's contributions to the three accumulators. -/
module

public import proofs.«01_k».proof.Proof.KAcc
public import proofs.«01_k».proof.Proof.Spec

@[expose] public section

noncomputable section

namespace Cert.KVal

open Cert.KernelIdeal Cert.KernelIdeal.Gen Cert.Spec Idealize.ShloMosaic

/-- The one-hot row of a label below 80 marks the label's class. -/
theorem onehot_iff (w : BitVec 32) (hw : w.toNat < 80) (k : Fin 80) : BitVec.ofNat 32 k.val = w ↔ k = clsIdx w := by
  have hk := k.isLt
  constructor
  · rintro rfl
    refine Fin.ext ?_
    show k.val = (BitVec.ofNat 32 k.val).toNat % 80
    rw [BitVec.toNat_ofNat]; omega
  · rintro rfl
    refine BitVec.eq_of_toNat_eq ?_
    show (BitVec.ofNat 32 (w.toNat % 80)).toNat = w.toNat
    rw [BitVec.toNat_ofNat]; omega

/-- The class loss of a lane, from the lane's scores and label. -/
theorem cls_apply (x : Vec Ideal S8192x80 .f32) (y : Vec Ideal S1x1x8192 .i32) (l : Fin 8192)
    (hy : ((y (ix3 0 0 l) : BitVec 32)).toNat < 80) :
    k0_pay7 x y (ix2 0 l) = focal (logp (fun c => x (ix2 l c)) (clsIdx (y (ix3 0 0 l)))) := by
  have e : ∑ k : Fin 80, x (ix2 l k) * FloatOps.sitofp (F := Ideal) FTy.f32
      (BitVec.setWidth 32 (IntOp.cmpi CmpIPredicate.eq (BitVec.ofNat 32 k.val) (y (ix3 0 0 l)))) = x (ix2 l (clsIdx (y (ix3 0 0 l)))) := by
    rw [← sum_onehot (fun c => x (ix2 l c)) (fun k : Fin 80 => BitVec.ofNat 32 k.val = y (ix3 0 0 l)) _ (onehot_iff _ hy)]
    exact Finset.sum_congr rfl fun k _ => congrArg _ (sitofp_ofBool _)
  pointwise [k0_pay7]
  rw [e]
  rfl

/-- The flag of a positive sample. -/
theorem mask_apply (y : Vec Ideal S1x1x8192 .i32) (l : Fin 8192) :
    k0_pay8 (F := Ideal) y (ix2 0 l) = ind ((y (ix3 0 0 l) : BitVec 32) = 1#32) := by
  pointwise [k0_pay8]
  exact sitofp_ofBool _

/-- The row moved one lane down, at a lane with a next one. -/
theorem roll_apply (x : Vec Ideal S1x1x16384 .f32) (l l' : Fin 16384) (h : l'.val = l.val + 1) :
    k0_pay11 x (ix2 0 l) = x (ix3 0 0 l') := by
  have hl : l.val < 16383 := by have := l'.isLt; omega
  unfold k0_pay11
  refine (Idealize.ShloMosaic.concatenate_pair_apply_left (t := S1x16384) (s₁ := S1x16383) (s₂ := S1x1) (1 : Fin 2) _ _ _ _ rfl (ix2 (0 : Fin 1) (⟨l.val, hl⟩ : Fin 16383)) (fun b => ?_)).trans ?_
  · match b with
    | ⟨0, _⟩ => rfl
    | ⟨1, _⟩ => rfl
  · pointwise [k0_pay9]
    congr 2
    exact Fin.ext (by simp only [h]; omega)

/-- The objectness loss of an even lane, from its score pair and target. -/
theorem obj_apply (x : Vec Ideal S1x1x16384 .f32) (y : Vec Ideal S1x1x16384 .i32) (l l' : Fin 16384) (h : l'.val = l.val + 1) :
    k0_pay12 (k0_pay9 x) (k0_pay10 (F := Ideal) y) (k0_pay11 x) (ix2 0 l)
      = focal (logp (fun c : Fin 2 => if c = 0 then x (ix3 0 0 l) else x (ix3 0 0 l')) (objIdx (y (ix3 0 0 l)))) := by
  have hr := roll_apply x l l' h
  generalize k0_pay11 x = r at hr
  have hs : Scalar.select (IntOp.cmpi CmpIPredicate.eq (IntOp.minsi 1#32 (IntOp.maxsi 0#32 (y (ix3 0 0 l)))) 0#32) (x (ix3 0 0 l)) (r (ix2 0 l))
      - Ideal.log (Ideal.exp (x (ix3 0 0 l)) + Ideal.exp (r (ix2 0 l)))
      = logp (fun c : Fin 2 => if c = 0 then x (ix3 0 0 l) else x (ix3 0 0 l')) (objIdx (y (ix3 0 0 l))) := by
    unfold logp
    rw [Fin.sum_univ_two, clip_obj, hr]
    unfold objIdx
    by_cases hg : (y (ix3 0 0 l) : BitVec 32).toInt ≤ 0
    · rw [if_pos hg]; rfl
    · rw [if_neg hg]; rfl
  pointwise [k0_pay12, k0_pay9, k0_pay10]
  rw [hs]
  rfl

/-- The objectness flag of a lane: the sample's at an even lane, zero at an odd one. -/
theorem objmask_apply (y : Vec Ideal S1x1x16384 .i32) (l : Fin 16384) :
    k0_pay13 (F := Ideal) (k0_pay10 (F := Ideal) y) (ix2 0 l)
      = if l.val % 2 = 0 then ind ((y (ix3 0 0 l) : BitVec 32) ≠ 4294967295#32) else 0 := by
  have hp : IntOp.cmpi CmpIPredicate.eq (IntOp.andi (BitVec.ofNat 32 l.val) 1#32) 0#32 = BitVec.ofBool (decide (l.val % 2 = 0)) := by
    have e : (BitVec.ofNat 32 l.val &&& 1#32).toNat = l.val % 2 := by
      have hl := l.isLt
      rw [BitVec.toNat_and, BitVec.toNat_ofNat, show (1#32 : BitVec 32).toNat = 1 from rfl, Nat.and_one_is_mod]
      omega
    show BitVec.ofBool (BitVec.ofNat 32 l.val &&& 1#32 == 0#32) = _
    congr 1
    rw [Bool.eq_iff_iff, beq_iff_eq, decide_eq_true_iff, ← BitVec.toNat_inj, e]
    rfl
  pointwise [k0_pay13, k0_pay10]
  rw [hp]
  generalize (y (ix3 0 0 l) : BitVec 32) = g
  have hq : IntOp.cmpi CmpIPredicate.ne g 4294967295#32 = BitVec.ofBool (decide (g ≠ 4294967295#32)) := by
    show BitVec.ofBool (g != 4294967295#32) = _
    congr 1
    rw [Bool.eq_iff_iff, bne_iff_ne, decide_eq_true_iff]
  rw [hq]
  unfold ind
  by_cases h0 : l.val % 2 = 0 <;> by_cases h1 : g ≠ 4294967295#32
  · rw [decide_eq_true h0, decide_eq_true h1, if_pos h0, if_pos h1]; rfl
  · rw [decide_eq_true h0, decide_eq_false h1, if_pos h0, if_neg h1]; rfl
  · rw [decide_eq_false h0, decide_eq_true h1, if_neg h0]; rfl
  · rw [decide_eq_false h0, decide_eq_false h1, if_neg h0]; rfl

/-- One step of the box accumulator at a lane. -/
theorem bb_apply (x y : Vec Ideal S1x1x32768 .f32) (g : Vec Ideal S1x1x32768 .i32) (a : Vec Ideal S1x32768 .f32) (l : Fin 32768) :
    k0_pay6 (k0_pay14 x y) (k0_pay15 x y) (k0_pay16 (F := Ideal)) g a (ix2 0 l)
      = a (ix2 0 l) + sl1 (x (ix3 0 0 l) - y (ix3 0 0 l)) * ind ((g (ix3 0 0 l) : BitVec 32) = 1#32) := by
  rw [← sitofp_ofBool]
  pointwise [k0_pay6, k0_pay14, k0_pay15, k0_pay16]
  rfl

end Cert.KVal
end
-- ==== Proof.KIn.lean ====
/- What a grid point's input blocks hold: the entries of the argument arrays they stand for. -/
module

public import proofs.«01_k».proof.Proof.KAcc
public import Idealize.ShloMosaic.Lib.Pointwise

@[expose] public section

noncomputable section

namespace Cert.KIn

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-! ## The arrays the host prepares -/

/-- The predicted boxes in lanes. -/
theorem V_v0 (c : Dev nD) : V m c main_v0 = shapeCast S32x1x32768 (m ((c : Thread nD τ).loc main_arg0)) shapeCasts_S262144x4_S32x1x32768 := by
  unfold V V0
  rfl

/-- The objectness scores in lanes. -/
theorem V_v1 (c : Dev nD) : V m c main_v1 = shapeCast S32x1x16384 (m ((c : Thread nD τ).loc main_arg2)) shapeCasts_S262144x2_S32x1x16384 := by
  unfold V V0
  rfl

/-- The box targets in lanes. -/
theorem V_v2 (c : Dev nD) : V m c main_v2 = shapeCast S32x1x32768 (m ((c : Thread nD τ).loc main_arg3)) shapeCasts_S262144x4_S32x1x32768 := by
  unfold V V0
  rfl

/-- The class labels in lanes. -/
theorem V_v3 (c : Dev nD) : V m c main_v3 = shapeCast S32x1x8192 (m ((c : Thread nD τ).loc main_arg4)) shapeCasts_S262144_S32x1x8192 := by
  unfold V V0
  rfl

/-- The objectness targets in lanes. -/
theorem V_v4 (c : Dev nD) : V m c main_v4 = shapeCast S32x1x8192 (m ((c : Thread nD τ).loc main_arg5)) shapeCasts_S262144_S32x1x8192 := by
  unfold V V0
  rfl

/-- The objectness targets, each twice, in lanes. -/
theorem V_v7 (c : Dev nD) : V m c main_v7 = shapeCast S32x1x16384 (shapeCast S524288 (broadcastInDim S262144x2 ![0] bcast_S262144_S262144x2_0
    (m ((c : Thread nD τ).loc main_arg5))) shapeCasts_S262144x2_S524288) shapeCasts_S524288_S32x1x16384 := by
  unfold V V0
  rfl

/-- The objectness targets, each four times, in lanes. -/
theorem V_v10 (c : Dev nD) : V m c main_v10 = shapeCast S32x1x32768 (shapeCast S1048576 (broadcastInDim S262144x4 ![0] bcast_S262144_S262144x4_0
    (m ((c : Thread nD τ).loc main_arg5))) shapeCasts_S262144x4_S1048576) shapeCasts_S1048576_S32x1x32768 := by
  unfold V V0
  rfl

/-! ## Lanes of a recast array -/

/-- An array of `N` entries recast as `T` rows of `L` lanes: row `t`, lane `l` holds entry `L t + l`. -/
theorem cast1_apply {α : Type} {T L N : Nat} (x : (⟨1, ![N]⟩ : Shape).Idx → α) (h : (⟨1, ![N]⟩ : Shape).ShapeCasts ⟨3, ![T, 1, L]⟩)
    (t : Fin T) (l : Fin L) (n : Fin N) (hn : n.val = L * t.val + l.val) :
    shapeCast ⟨3, ![T, 1, L]⟩ x h (ix3 t 0 l) = x (ix1 n) := by
  refine shapeCast_apply x h _ _ ?_
  rw [Shape.rowMajor_val_one, Shape.rowMajor_val_three]
  show n.val = (t.val * 1 + 0) * L + l.val
  rw [hn, mul_comm, Nat.mul_one, Nat.add_zero]

/-- An array of `N` groups of `K` entries recast as `T` rows of `L` lanes: row `t`, lane `l` holds entry `k` of group `n`,
    where `K n + k = L t + l`. -/
theorem cast2_apply {α : Type} {T L N K : Nat} (x : (⟨2, ![N, K]⟩ : Shape).Idx → α) (h : (⟨2, ![N, K]⟩ : Shape).ShapeCasts ⟨3, ![T, 1, L]⟩)
    (t : Fin T) (l : Fin L) (n : Fin N) (k : Fin K) (hn : K * n.val + k.val = L * t.val + l.val) :
    shapeCast ⟨3, ![T, 1, L]⟩ x h (ix3 t 0 l) = x (ix2 n k) := by
  refine shapeCast_apply x h _ _ ?_
  rw [Shape.rowMajor_val_two, Shape.rowMajor_val_three]
  show n.val * K + k.val = (t.val * 1 + 0) * L + l.val
  rw [mul_comm n.val, hn, mul_comm L, Nat.mul_one, Nat.add_zero]

/-- An array repeated `K` times along a new axis and recast in lanes: lane `l` of row `t` holds entry `n`, where
    `K n + k = L t + l` for some `k` below `K`. -/
theorem cast_repeat_apply {α : Type} {T L N K NK : Nat} (x : (⟨1, ![N]⟩ : Shape).Idx → α)
    (hb : (⟨1, ![N]⟩ : Shape).BroadcastsInDim ⟨2, ![N, K]⟩ ![0]) (h1 : (⟨2, ![N, K]⟩ : Shape).ShapeCasts ⟨1, ![NK]⟩)
    (h2 : (⟨1, ![NK]⟩ : Shape).ShapeCasts ⟨3, ![T, 1, L]⟩)
    (t : Fin T) (l : Fin L) (n : Fin N) (k : Fin K) (hn : K * n.val + k.val = L * t.val + l.val) :
    shapeCast ⟨3, ![T, 1, L]⟩ (shapeCast ⟨1, ![NK]⟩ (broadcastInDim ⟨2, ![N, K]⟩ ![0] hb x) h1) h2 (ix3 t 0 l) = x (ix1 n) := by
  rw [shapeCast_comp, cast2_apply _ _ t l n k hn]
  refine broadcastInDim_apply _ _ _ _ _ (fun a => ?_)
  match a with
  | ⟨0, _⟩ =>
    show n.val = if N = 1 then 0 else n.val
    split
    · have := n.isLt; omega
    · rfl

/-! ## Where a point's blocks lie -/

/-- Every input's block index at a point is the point's number. -/
theorem index_in : ∀ t : Fin cfg0.N,
    (win0_0.index t (0 : Fin 2) = t.val ∧ win0_0.index t (1 : Fin 2) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0) :=
  (by decide +kernel : ∀ t : Fin grid0.N, _)

/-- The grid's points, numbered. -/
abbrev pt (t : Fin 32) : Fin cfg0.N := ⟨t.val, lt_of_lt_of_eq t.isLt (show cfg0.N = 32 from N_0).symm⟩

/-- The array index of lane `l` of a block of one row, its block index the row's number `t`. -/
theorem row_idx {L : Nat} (i : Fin 3 → Nat) (t : Fin 32) (l : Fin L) (hi : i 0 = t.val ∧ i 1 = 0 ∧ i 2 = 0)
    (j : (⟨3, ![32, 1, L]⟩ : Shape).Idx) (h0 : (j 0).val = i 0 * 1 + 1 * 0) (h1 : (j 1).val = i 1 * 1 + 1 * 0)
    (h2 : (j 2).val = i 2 * L + 1 * l.val) : j = ix3 t 0 l := by
  obtain ⟨e0, e1, e2⟩ := hi
  funext a
  refine Fin.ext ?_
  match a with
  | ⟨0, _⟩ => show (j 0).val = t.val; omega
  | ⟨1, _⟩ => show (j 1).val = 0; omega
  | ⟨2, _⟩ => show (j 2).val = l.val; rw [h2, e2, Nat.zero_mul, Nat.zero_add, Nat.one_mul]

/-- A point's block of class scores: rows `8192 t` to `8192 t + 8191` of the scores. -/
theorem iblk0_apply (c : Dev nD) (t : Fin 32) (l : Fin 8192) (k : Fin 80) (n : Fin 262144) (hn : n.val = 8192 * t.val + l.val) :
    (iblk m c 0 (pt t) : Vec F S8192x80 .f32) (ix2 l k) = (m ((c : Thread nD τ).loc main_arg1) : Vec F S262144x80 .f32) (ix2 n k) := by
  obtain ⟨⟨e0, e1⟩, -⟩ := index_in (pt t)
  rw [← V_main_arg1 m c]
  show (V m c main_arg1 : Vec F S262144x80 .f32) (((cfg0.win 0).blk (pt t)).view.emb (ix2 l k : S8192x80.Idx)) = _
  refine congrArg _ (funext fun a => Fin.ext ?_)
  match a with
  | ⟨0, _⟩ => show win0_0.index (pt t) (0 : Fin 2) * 8192 + 1 * l.val = n.val; rw [e0, hn]; show t.val * 8192 + _ = _; omega
  | ⟨1, _⟩ => show win0_0.index (pt t) (1 : Fin 2) * 80 + 1 * k.val = k.val; rw [e1]; omega

/-- A point's block of class labels: its row of the array in lanes. -/
theorem row1 (c : Dev nD) (t : Fin 32) (l : Fin 8192) :
    (iblk m c 1 (pt t) : Vec F S1x1x8192 .i32) (ix3 0 0 l) = (V m c main_v3 : Vec F S32x1x8192 .i32) (ix3 t 0 l) := by
  obtain ⟨-, h, -⟩ := index_in (pt t)
  show (V m c main_v3 : Vec F S32x1x8192 .i32) (((cfg0.win 1).blk (pt t)).view.emb (ix3 0 0 l : S1x1x8192.Idx)) = _
  refine congrArg _ (row_idx (win0_1.index (pt t)) t l h _ ?_ ?_ ?_)
  all_goals rfl

/-- A point's block of objectness targets: its row of the array in lanes. -/
theorem row2 (c : Dev nD) (t : Fin 32) (l : Fin 8192) :
    (iblk m c 2 (pt t) : Vec F S1x1x8192 .i32) (ix3 0 0 l) = (V m c main_v4 : Vec F S32x1x8192 .i32) (ix3 t 0 l) := by
  obtain ⟨-, -, h, -⟩ := index_in (pt t)
  show (V m c main_v4 : Vec F S32x1x8192 .i32) (((cfg0.win 2).blk (pt t)).view.emb (ix3 0 0 l : S1x1x8192.Idx)) = _
  refine congrArg _ (row_idx (win0_2.index (pt t)) t l h _ ?_ ?_ ?_)
  all_goals rfl

/-- A point's block of objectness scores: its row of the array in lanes. -/
theorem row3 (c : Dev nD) (t : Fin 32) (l : Fin 16384) :
    (iblk m c 3 (pt t) : Vec F S1x1x16384 .f32) (ix3 0 0 l) = (V m c main_v1 : Vec F S32x1x16384 .f32) (ix3 t 0 l) := by
  obtain ⟨-, -, -, h, -⟩ := index_in (pt t)
  show (V m c main_v1 : Vec F S32x1x16384 .f32) (((cfg0.win 3).blk (pt t)).view.emb (ix3 0 0 l : S1x1x16384.Idx)) = _
  refine congrArg _ (row_idx (win0_3.index (pt t)) t l h _ ?_ ?_ ?_)
  all_goals rfl

/-- A point's block of objectness targets, twice each: its row of the array in lanes. -/
theorem row4 (c : Dev nD) (t : Fin 32) (l : Fin 16384) :
    (iblk m c 4 (pt t) : Vec F S1x1x16384 .i32) (ix3 0 0 l) = (V m c main_v7 : Vec F S32x1x16384 .i32) (ix3 t 0 l) := by
  obtain ⟨-, -, -, -, h, -⟩ := index_in (pt t)
  show (V m c main_v7 : Vec F S32x1x16384 .i32) (((cfg0.win 4).blk (pt t)).view.emb (ix3 0 0 l : S1x1x16384.Idx)) = _
  refine congrArg _ (row_idx (win0_4.index (pt t)) t l h _ ?_ ?_ ?_)
  all_goals rfl

/-- A point's block of predicted boxes: its row of the array in lanes. -/
theorem row5 (c : Dev nD) (t : Fin 32) (l : Fin 32768) :
    (iblk m c 5 (pt t) : Vec F S1x1x32768 .f32) (ix3 0 0 l) = (V m c main_v0 : Vec F S32x1x32768 .f32) (ix3 t 0 l) := by
  obtain ⟨-, -, -, -, -, h, -⟩ := index_in (pt t)
  show (V m c main_v0 : Vec F S32x1x32768 .f32) (((cfg0.win 5).blk (pt t)).view.emb (ix3 0 0 l : S1x1x32768.Idx)) = _
  refine congrArg _ (row_idx (win0_5.index (pt t)) t l h _ ?_ ?_ ?_)
  all_goals rfl

/-- A point's block of box targets: its row of the array in lanes. -/
theorem row6 (c : Dev nD) (t : Fin 32) (l : Fin 32768) :
    (iblk m c 6 (pt t) : Vec F S1x1x32768 .f32) (ix3 0 0 l) = (V m c main_v2 : Vec F S32x1x32768 .f32) (ix3 t 0 l) := by
  obtain ⟨-, -, -, -, -, -, h, -⟩ := index_in (pt t)
  show (V m c main_v2 : Vec F S32x1x32768 .f32) (((cfg0.win 6).blk (pt t)).view.emb (ix3 0 0 l : S1x1x32768.Idx)) = _
  refine congrArg _ (row_idx (win0_6.index (pt t)) t l h _ ?_ ?_ ?_)
  all_goals rfl

/-- A point's block of objectness targets, four times each: its row of the array in lanes. -/
theorem row7 (c : Dev nD) (t : Fin 32) (l : Fin 32768) :
    (iblk m c 7 (pt t) : Vec F S1x1x32768 .i32) (ix3 0 0 l) = (V m c main_v10 : Vec F S32x1x32768 .i32) (ix3 t 0 l) := by
  obtain ⟨-, -, -, -, -, -, -, h⟩ := index_in (pt t)
  show (V m c main_v10 : Vec F S32x1x32768 .i32) (((cfg0.win 7).blk (pt t)).view.emb (ix3 0 0 l : S1x1x32768.Idx)) = _
  refine congrArg _ (row_idx (win0_7.index (pt t)) t l h _ ?_ ?_ ?_)
  all_goals rfl

/-- The class label of a lane. -/
theorem iblk1_apply (c : Dev nD) (t : Fin 32) (l : Fin 8192) (n : Fin 262144) (hn : n.val = 8192 * t.val + l.val) :
    (iblk m c 1 (pt t) : Vec F S1x1x8192 .i32) (ix3 0 0 l) = (m ((c : Thread nD τ).loc main_arg4) : Vec F S262144 .i32) (ix1 n) := by
  rw [row1, V_v3]
  exact cast1_apply _ _ t l n hn

/-- The objectness target of a lane. -/
theorem iblk2_apply (c : Dev nD) (t : Fin 32) (l : Fin 8192) (n : Fin 262144) (hn : n.val = 8192 * t.val + l.val) :
    (iblk m c 2 (pt t) : Vec F S1x1x8192 .i32) (ix3 0 0 l) = (m ((c : Thread nD τ).loc main_arg5) : Vec F S262144 .i32) (ix1 n) := by
  rw [row2, V_v4]
  exact cast1_apply _ _ t l n hn

/-- The objectness score of a lane. -/
theorem iblk3_apply (c : Dev nD) (t : Fin 32) (l : Fin 16384) (n : Fin 262144) (k : Fin 2) (hn : 2 * n.val + k.val = 16384 * t.val + l.val) :
    (iblk m c 3 (pt t) : Vec F S1x1x16384 .f32) (ix3 0 0 l) = (m ((c : Thread nD τ).loc main_arg2) : Vec F S262144x2 .f32) (ix2 n k) := by
  rw [row3, V_v1]
  exact cast2_apply _ _ t l n k hn

/-- The objectness target of a lane of score pairs. -/
theorem iblk4_apply (c : Dev nD) (t : Fin 32) (l : Fin 16384) (n : Fin 262144) (k : Fin 2) (hn : 2 * n.val + k.val = 16384 * t.val + l.val) :
    (iblk m c 4 (pt t) : Vec F S1x1x16384 .i32) (ix3 0 0 l) = (m ((c : Thread nD τ).loc main_arg5) : Vec F S262144 .i32) (ix1 n) := by
  rw [row4, V_v7]
  exact cast_repeat_apply _ _ _ _ t l n k hn

/-- The predicted coordinate of a lane. -/
theorem iblk5_apply (c : Dev nD) (t : Fin 32) (l : Fin 32768) (n : Fin 262144) (k : Fin 4) (hn : 4 * n.val + k.val = 32768 * t.val + l.val) :
    (iblk m c 5 (pt t) : Vec F S1x1x32768 .f32) (ix3 0 0 l) = (m ((c : Thread nD τ).loc main_arg0) : Vec F S262144x4 .f32) (ix2 n k) := by
  rw [row5, V_v0]
  exact cast2_apply _ _ t l n k hn

/-- The target coordinate of a lane. -/
theorem iblk6_apply (c : Dev nD) (t : Fin 32) (l : Fin 32768) (n : Fin 262144) (k : Fin 4) (hn : 4 * n.val + k.val = 32768 * t.val + l.val) :
    (iblk m c 6 (pt t) : Vec F S1x1x32768 .f32) (ix3 0 0 l) = (m ((c : Thread nD τ).loc main_arg3) : Vec F S262144x4 .f32) (ix2 n k) := by
  rw [row6, V_v2]
  exact cast2_apply _ _ t l n k hn

/-- The objectness target of a lane of box coordinates. -/
theorem iblk7_apply (c : Dev nD) (t : Fin 32) (l : Fin 32768) (n : Fin 262144) (k : Fin 4) (hn : 4 * n.val + k.val = 32768 * t.val + l.val) :
    (iblk m c 7 (pt t) : Vec F S1x1x32768 .i32) (ix3 0 0 l) = (m ((c : Thread nD τ).loc main_arg5) : Vec F S262144 .i32) (ix1 n) := by
  rw [row7, V_v10]
  exact cast_repeat_apply _ _ _ _ t l n k hn

end Cert.KIn
end
-- ==== Proof.KSum.lean ====
/- What the three accumulators total: the samples' losses summed. -/
module

public import proofs.«01_k».proof.Proof.KVal
public import proofs.«01_k».proof.Proof.KIn

@[expose] public section

noncomputable section

namespace Cert.KSum

open Cert.KernelIdeal Cert.KernelIdeal.Gen Cert.Spec Cert.KAcc Cert.KVal Cert.KIn
open Idealize.ShloMosaic Idealize.ShloMosaic.TcCoe Idealize.SL.Sem

variable (m : (ℓ : Loc nD τ sig) → Buf (Elt Ideal) ℓ)

/-- The arguments, as arrays. -/
abbrev boxes (c : Dev nD) : Vec Ideal S262144x4 .f32 := m ((c : Thread nD τ).loc main_arg0)
abbrev scores (c : Dev nD) : Vec Ideal S262144x80 .f32 := m ((c : Thread nD τ).loc main_arg1)
abbrev pairs (c : Dev nD) : Vec Ideal S262144x2 .f32 := m ((c : Thread nD τ).loc main_arg2)
abbrev goals (c : Dev nD) : Vec Ideal S262144x4 .f32 := m ((c : Thread nD τ).loc main_arg3)
abbrev labels (c : Dev nD) : Vec Ideal S262144 .i32 := m ((c : Thread nD τ).loc main_arg4)
abbrev flags (c : Dev nD) : Vec Ideal S262144 .i32 := m ((c : Thread nD τ).loc main_arg5)

/-! ## One point's contribution to a lane -/

/-- What a point adds to a lane of the class accumulator. -/
def conCls (c : Dev nD) (t : Fin cfg0.N) (l : Fin 8192) : EReal :=
  k0_pay7 (F := Ideal) (iblk m c 0 t) (iblk m c 1 t) (ix2 0 l) * k0_pay8 (F := Ideal) (iblk m c 2 t) (ix2 0 l)

/-- What a point adds to a lane of the objectness accumulator. -/
def conObj (c : Dev nD) (t : Fin cfg0.N) (l : Fin 16384) : EReal :=
  k0_pay12 (F := Ideal) (k0_pay9 (iblk m c 3 t)) (k0_pay10 (F := Ideal) (iblk m c 4 t)) (k0_pay11 (iblk m c 3 t)) (ix2 0 l)
    * k0_pay13 (F := Ideal) (k0_pay10 (F := Ideal) (iblk m c 4 t)) (ix2 0 l)

/-- A lane's box loss. -/
def laneBb (x y : Vec Ideal S1x1x32768 .f32) (g : Vec Ideal S1x1x32768 .i32) (l : Fin 32768) : EReal :=
  sl1 (x (ix3 0 0 l) - y (ix3 0 0 l)) * ind (g (ix3 0 0 l) = 1#32)

/-- What a point adds to a lane of the box accumulator. -/
def conBb (c : Dev nD) (t : Fin cfg0.N) (l : Fin 32768) : EReal := laneBb (iblk m c 5 t) (iblk m c 6 t) (iblk m c 7 t) l

/-- A step adds the point's contribution to the class accumulator. -/
theorem stepCls_apply (c : Dev nD) (t : Fin cfg0.N) (a : Vec Ideal S1x8192 .f32) (l : Fin 8192) :
    stepCls m c t a (ix2 0 l) = a (ix2 0 l) + conCls m c t l := by
  unfold stepCls conCls
  generalize k0_pay7 (F := Ideal) (iblk m c 0 t) (iblk m c 1 t) = x
  generalize k0_pay8 (F := Ideal) (iblk m c 2 t) = y
  pointwise [k0_pay4]

/-- A step adds the point's contribution to the objectness accumulator. -/
theorem stepObj_apply (c : Dev nD) (t : Fin cfg0.N) (a : Vec Ideal S1x16384 .f32) (l : Fin 16384) :
    stepObj m c t a (ix2 0 l) = a (ix2 0 l) + conObj m c t l := by
  unfold stepObj conObj
  generalize k0_pay12 (F := Ideal) _ _ _ = x
  generalize k0_pay13 (F := Ideal) _ = y
  pointwise [k0_pay5]

/-- A step adds the point's contribution to the box accumulator. -/
theorem stepBb_apply (c : Dev nD) (t : Fin cfg0.N) (a : Vec Ideal S1x32768 .f32) (l : Fin 32768) :
    stepBb m c t a (ix2 0 l) = a (ix2 0 l) + conBb m c t l := bb_apply _ _ _ a l

/-! ## The accumulators after the last point -/

/-- The three result arrays after the last point. -/
def arrCls (c : Dev nD) : Vec Ideal S1x8192 .f32 := (dats m 0 c).arrAt 8 cfg0.N
def arrObj (c : Dev nD) : Vec Ideal S1x16384 .f32 := (dats m 0 c).arrAt 9 cfg0.N
def arrBb (c : Dev nD) : Vec Ideal S1x32768 .f32 := (dats m 0 c).arrAt 10 cfg0.N

/-- A quantity that starts at the first point's contribution and gains each later point's is the sum of them. -/
theorem sum_steps (N : Nat) (f : (n : Nat) → n < N → EReal) (con : Fin N → EReal) (h0 : ∀ h, f 0 h = con ⟨0, h⟩)
    (hs : ∀ n (h : n + 1 < N), f (n + 1) h = f n (Nat.lt_of_succ_lt h) + con ⟨n + 1, h⟩) :
    ∀ n (h : n < N), f n h = ∑ t : Fin (n + 1), con ⟨t.val, lt_of_lt_of_le t.isLt h⟩
  | 0, h => by rw [h0, Fin.sum_univ_one]; rfl
  | n + 1, h => by
    rw [hs, sum_steps N f con h0 hs n, Fin.sum_univ_castSucc (n := n + 1)]
    rfl

/-- A point past the first is not a multiple of the number of points. -/
theorem not_first {n : Nat} (h : n + 1 < cfg0.N) : ¬(n + 1) % 32 = 0 := by
  have := lt_of_lt_of_eq h (show cfg0.N = 32 from N_0); omega

/-- A lane of the class array holds the sum of the points' contributions. -/
theorem arr_cls (c : Dev nD) (l : Fin 8192) :
    arrCls m c (ix2 0 l) = ∑ t : Fin 32, conCls m c (pt t) l := by
  refine (congrFun (final_cls m c) (ix2 0 l)).trans ?_
  refine sum_steps cfg0.N (fun n h => (outsAt0 m c n h).1 (ix2 0 l)) (fun t => conCls m c t l) (fun h => ?_) (fun n h => ?_) 31 last.isLt
  · refine (congrFun (congrArg Prod.fst (outs_first m c ⟨0, h⟩ rfl)) _).trans ((stepCls_apply m c _ _ l).trans ?_)
    rw [show (k0_pay1 (F := Ideal)) (ix2 0 l) = 0 by pointwise [k0_pay1], zero_add]
  · exact (congrFun (congrArg Prod.fst (outs_next m c ⟨n + 1, h⟩ (not_first h) (Nat.lt_of_succ_lt h))) _).trans (stepCls_apply m c _ _ l)

/-- A lane of the objectness array holds the sum of the points' contributions. -/
theorem arr_obj (c : Dev nD) (l : Fin 16384) :
    arrObj m c (ix2 0 l) = ∑ t : Fin 32, conObj m c (pt t) l := by
  refine (congrFun (final_obj m c) (ix2 0 l)).trans ?_
  refine sum_steps cfg0.N (fun n h => (outsAt0 m c n h).2.1 (ix2 0 l)) (fun t => conObj m c t l) (fun h => ?_) (fun n h => ?_) 31 last.isLt
  · refine (congrFun (congrArg (fun p => p.2.1) (outs_first m c ⟨0, h⟩ rfl)) _).trans ((stepObj_apply m c _ _ l).trans ?_)
    rw [show (k0_pay2 (F := Ideal)) (ix2 0 l) = 0 by pointwise [k0_pay2], zero_add]
  · exact (congrFun (congrArg (fun p => p.2.1) (outs_next m c ⟨n + 1, h⟩ (not_first h) (Nat.lt_of_succ_lt h))) _).trans (stepObj_apply m c _ _ l)

/-- A lane of the box array holds the sum of the points' contributions. -/
theorem arr_bb (c : Dev nD) (l : Fin 32768) :
    arrBb m c (ix2 0 l) = ∑ t : Fin 32, conBb m c (pt t) l := by
  refine (congrFun (final_bb m c) (ix2 0 l)).trans ?_
  refine sum_steps cfg0.N (fun n h => (outsAt0 m c n h).2.2 (ix2 0 l)) (fun t => conBb m c t l) (fun h => ?_) (fun n h => ?_) 31 last.isLt
  · refine (congrFun (congrArg (fun p => p.2.2) (outs_first m c ⟨0, h⟩ rfl)) _).trans ((stepBb_apply m c _ _ l).trans ?_)
    rw [show (k0_pay3 (F := Ideal)) (ix2 0 l) = 0 by pointwise [k0_pay3], zero_add]
  · exact (congrFun (congrArg (fun p => p.2.2) (outs_next m c ⟨n + 1, h⟩ (not_first h) (Nat.lt_of_succ_lt h))) _).trans (stepBb_apply m c _ _ l)

/-! ## The contributions are the samples' losses -/

/-- A lane of a class block is a sample. -/
theorem conCls_eq (c : Dev nD) (hl : ∀ n : Fin 262144, (labels m c (ix1 n) : BitVec 32).toNat < 80) (t : Fin 32) (l : Fin 8192)
    (n : Fin 262144) (hn : n.val = 8192 * t.val + l.val) :
    conCls m c (pt t) l = clsTerm (scores m c) (labels m c) (flags m c) n := by
  have e1 := iblk1_apply m c t l n hn
  have e2 := iblk2_apply m c t l n hn
  unfold conCls clsTerm
  rw [cls_apply _ _ l (by rw [e1]; exact hl n), mask_apply, e1, e2]
  simp only [iblk0_apply m c t l _ n hn]

/-- A lane of an objectness block is a sample at even lanes and nothing at odd ones. -/
theorem conObj_eq (c : Dev nD) (t : Fin 32) (l : Fin 16384) (n : Fin 262144) (k : Fin 2) (hn : 2 * n.val + k.val = 16384 * t.val + l.val) :
    conObj m c (pt t) l = if k = 0 then objTerm (pairs m c) (flags m c) n else 0 := by
  have e4 := iblk4_apply m c t l n k hn
  unfold conObj
  rw [objmask_apply, e4]
  by_cases hk : k = 0
  · subst hk
    have hn' : 2 * n.val + 0 = 16384 * t.val + l.val := hn
    have hlt : l.val + 1 < 16384 := by have := l.isLt; omega
    rw [if_pos rfl, if_pos (by omega), obj_apply _ _ l ⟨l.val + 1, hlt⟩ rfl, e4]
    rw [iblk3_apply m c t l n 0 hn, iblk3_apply m c t ⟨l.val + 1, hlt⟩ n 1 (by show 2 * n.val + 1 = 16384 * t.val + (l.val + 1); omega)]
    unfold objTerm
    congr 3
    funext c'
    match c' with
    | ⟨0, _⟩ => rfl
    | ⟨1, _⟩ => rfl
  · have hk' : k.val = 1 := by
      have := k.isLt
      have h0 : k.val ≠ 0 := fun h => hk (Fin.ext h)
      omega
    rw [if_neg hk, if_neg (by omega), mul_zero]

/-- A lane of a box block is one coordinate of a sample. -/
theorem conBb_eq (c : Dev nD) (t : Fin 32) (l : Fin 32768) (n : Fin 262144) (k : Fin 4) (hn : 4 * n.val + k.val = 32768 * t.val + l.val) :
    conBb m c (pt t) l = sl1 (boxes m c (ix2 n k) - goals m c (ix2 n k)) * ind (flags m c (ix1 n) = 1#32) := by
  unfold conBb laneBb
  rw [iblk5_apply m c t l n k hn, iblk6_apply m c t l n k hn, iblk7_apply m c t l n k hn]

/-! ## The totals -/

/-- The sum over the blocks' lanes, `K` to a sample, is the sum over the samples of their lanes' sums. -/
theorem sum_lanes {L K : Nat} (hK : 0 < K) (hL : 32 * L = 262144 * K) (f : Fin 32 → Fin L → EReal) (g : Fin 262144 → Fin K → EReal)
    (h : ∀ (t : Fin 32) (l : Fin L) (n : Fin 262144) (k : Fin K), K * n.val + k.val = L * t.val + l.val → f t l = g n k) :
    ∑ l, ∑ t, f t l = ∑ n, ∑ k, g n k := by
  rw [Finset.sum_comm]
  let q : Fin (262144 * K) → EReal := fun i =>
    g ⟨i.val / K, Nat.div_lt_of_lt_mul (i.isLt.trans_eq (mul_comm _ _))⟩ ⟨i.val % K, Nat.mod_lt _ hK⟩
  rw [sum_blocks (N := 262144 * K) hL f q (fun t l i hi => h t l _ _ (by
      show K * (i.val / K) + i.val % K = _
      rw [Nat.div_add_mod, hi])),
    sum_blocks (N := 262144 * K) rfl g q (fun n k i hi => by
      show g n k = g ⟨i.val / K, _⟩ ⟨i.val % K, _⟩
      congr 1
      · exact Fin.ext (by show n.val = i.val / K; rw [hi, Nat.mul_add_div hK, Nat.div_eq_of_lt k.isLt, Nat.add_zero])
      · exact Fin.ext (by show k.val = i.val % K; rw [hi, Nat.mul_add_mod, Nat.mod_eq_of_lt k.isLt]))]

/-- The class array's lanes total the samples' class losses. -/
theorem total_cls (c : Dev nD) (hl : ∀ n : Fin 262144, (labels m c (ix1 n) : BitVec 32).toNat < 80) :
    ∑ l : Fin 8192, arrCls m c (ix2 0 l)
      = ∑ n, clsTerm (scores m c) (labels m c) (flags m c) n := by
  simp only [arr_cls]
  rw [Finset.sum_comm]
  exact sum_blocks (by norm_num) _ _ fun t l n hn => conCls_eq m c hl t l n hn

/-- The objectness array's lanes total the samples' objectness losses. -/
theorem total_obj (c : Dev nD) :
    ∑ l : Fin 16384, arrObj m c (ix2 0 l)
      = ∑ n, objTerm (pairs m c) (flags m c) n := by
  simp only [arr_obj]
  rw [sum_lanes (K := 2) (by norm_num) (by norm_num) _ (fun n k => if k = 0 then objTerm (pairs m c) (flags m c) n else 0)
    fun t l n k hn => conObj_eq m c t l n k hn]
  refine Finset.sum_congr rfl fun n _ => ?_
  rw [Fin.sum_univ_two, if_pos rfl, if_neg (by decide), add_zero]

/-- The box array's lanes total the samples' box losses. -/
theorem total_bb (c : Dev nD) :
    ∑ l : Fin 32768, arrBb m c (ix2 0 l)
      = ∑ n, bbTerm (boxes m c) (goals m c) (flags m c) n := by
  simp only [arr_bb]
  rw [sum_lanes (K := 4) (by norm_num) (by norm_num) _
    (fun n k => sl1 (boxes m c (ix2 n k) - goals m c (ix2 n k)) * ind (flags m c (ix1 n) = 1#32))
    fun t l n k hn => conBb_eq m c t l n k hn]
  exact Finset.sum_congr rfl fun n _ => (sum_mul_ind _ _).symm

end Cert.KSum
end
-- ==== Proof.KTail.lean ====
/- The kernel program's run: each result is the weighted mean of the samples' losses. -/
module

public import proofs.«01_k».proof.Proof.KSum
public import Idealize.ShloMosaic.Lib.Claim

@[expose] public section

noncomputable section

namespace Cert.KTail

open Cert.KernelIdeal Cert.KernelIdeal.Gen Cert.Spec Cert.KSum
open Idealize.ShloMosaic Idealize.ShloMosaic.TcCoe Idealize.SL.Sem

variable (m : (ℓ : Loc nD τ sig) → Buf (Elt Ideal) ℓ)

/-- The class result, from the contents at the region's exit. -/
theorem after_cls (W : Valuation τ sig (Elt Ideal)) :
    StableHlo.after (hostOps1 (F := Ideal)) W (Proc.devRef .tc main_v24)
      = weigh 0x461C4000#32 (Host.reduceAdd (W (Proc.devRef .tc main_v11_0)) (constant S_ .f32 0x00000000#32) reducesTo_S1x8192_S_d0_1 h_S_)
          (W (Proc.devRef .tc main_arg7)) := by
  after_results <;> rfl

/-- The objectness result, from the contents at the region's exit. -/
theorem after_obj (W : Valuation τ sig (Elt Ideal)) :
    StableHlo.after (hostOps1 (F := Ideal)) W (Proc.devRef .tc main_v28)
      = weigh 0x459C4000#32 (Host.reduceAdd (W (Proc.devRef .tc main_v11_1)) (constant S_ .f32 0x00000000#32) reducesTo_S1x16384_S_d0_1 h_S_)
          (W (Proc.devRef .tc main_arg6)) := by
  after_results <;> rfl

/-- The box result, from the contents at the region's exit. -/
theorem after_bb (W : Valuation τ sig (Elt Ideal)) :
    StableHlo.after (hostOps1 (F := Ideal)) W (Proc.devRef .tc main_v32)
      = weigh 0x469C4000#32 (Host.reduceAdd (W (Proc.devRef .tc main_v11_2)) (constant S_ .f32 0x00000000#32) reducesTo_S1x32768_S_d0_1 h_S_)
          (W (Proc.devRef .tc main_arg8)) := by
  after_results <;> rfl

/-- The contents at the region's exit. -/
abbrev exitVal (c : Dev nD) : Valuation τ sig (Elt Ideal) :=
  Pipeline.withArrays (cfgs 0).spec c (V0 m c) fun w => (dats m 0 c).arrAt w (cfgs 0).N

/-- At the exit the three result arrays hold the accumulators, and the learned scalars are unchanged. -/
theorem exit_arr (c : Dev nD) :
    exitVal m c (Proc.devRef .tc main_v11_0) = arrCls m c ∧ exitVal m c (Proc.devRef .tc main_v11_1) = arrObj m c
      ∧ exitVal m c (Proc.devRef .tc main_v11_2) = arrBb m c :=
  ⟨Pipeline.withArrays_arr (cfgs 0).spec launch0.win.arr_inj c (V0 m c) (fun w => (dats m 0 c).arrAt w (cfgs 0).N) 8,
    Pipeline.withArrays_arr (cfgs 0).spec launch0.win.arr_inj c (V0 m c) (fun w => (dats m 0 c).arrAt w (cfgs 0).N) 9,
    Pipeline.withArrays_arr (cfgs 0).spec launch0.win.arr_inj c (V0 m c) (fun w => (dats m 0 c).arrAt w (cfgs 0).N) 10⟩

/-- At the exit the learned scalars hold what they were launched with. -/
theorem exit_arg (c : Dev nD) :
    exitVal m c (Proc.devRef .tc main_arg6) = m ((c : Thread nD τ).loc main_arg6)
      ∧ exitVal m c (Proc.devRef .tc main_arg7) = m ((c : Thread nD τ).loc main_arg7)
      ∧ exitVal m c (Proc.devRef .tc main_arg8) = m ((c : Thread nD τ).loc main_arg8) := by
  refine ⟨(Pipeline.withArrays_of_ne _ _ _ _ main_arg6 (by decide)).trans ?_,
    (Pipeline.withArrays_of_ne _ _ _ _ main_arg7 (by decide)).trans ?_,
    (Pipeline.withArrays_of_ne _ _ _ _ main_arg8 (by decide)).trans ?_⟩ <;> rfl

/-- The class result. -/
def outCls (c : Dev nD) : FVec Ideal SOne .f32 :=
  weigh 0x461C4000#32 (fun _ => ∑ n, clsTerm (scores m c) (labels m c) (flags m c) n) (m ((c : Thread nD τ).loc main_arg7))

/-- The objectness result. -/
def outObj (c : Dev nD) : FVec Ideal SOne .f32 :=
  weigh 0x459C4000#32 (fun _ => ∑ n, objTerm (pairs m c) (flags m c) n) (m ((c : Thread nD τ).loc main_arg6))

/-- The box result. -/
def outBb (c : Dev nD) : FVec Ideal SOne .f32 :=
  weigh 0x469C4000#32 (fun _ => ∑ n, bbTerm (boxes m c) (goals m c) (flags m c) n) (m ((c : Thread nD τ).loc main_arg8))

/-- What the lines after the region leave in the class result's buffer. -/
theorem tail_cls (c : Dev nD) (hl : ∀ n : Fin 262144, (labels m c (ix1 n) : BitVec 32).toNat < 80) :
    Pipeline.afterTail₀ cfgs (dats m) 0 (V0 m) [hostOps1] c main_v24 = outCls m c := by
  refine (after_cls (exitVal m c)).trans ?_
  rw [(exit_arr m c).1, (exit_arg m c).2.1, sum_row, total_cls m c hl]
  rfl

/-- What the lines after the region leave in the objectness result's buffer. -/
theorem tail_obj (c : Dev nD) : Pipeline.afterTail₀ cfgs (dats m) 0 (V0 m) [hostOps1] c main_v28 = outObj m c := by
  refine (after_obj (exitVal m c)).trans ?_
  rw [(exit_arr m c).2.1, (exit_arg m c).1, sum_row, total_obj m c]
  rfl

/-- What the lines after the region leave in the box result's buffer. -/
theorem tail_bb (c : Dev nD) : Pipeline.afterTail₀ cfgs (dats m) 0 (V0 m) [hostOps1] c main_v32 = outBb m c := by
  refine (after_bb (exitVal m c)).trans ?_
  rw [(exit_arr m c).2.2, (exit_arg m c).2.2, sum_row, total_bb m c]
  rfl

/-- The kernel program's run on labels in range: the three results, and every argument unchanged. -/
theorem run (ρ : Dev nD → PrngReg) (hl : ∀ c (n : Fin 262144), (labels m c (ix1 n) : BitVec 32).toNat < 80) :
    θ_run defs (onTc (τ := τ) (main (F := Ideal))) ⟨m, fun _ => 0, ρ⟩ (fun r =>
      (∀ c : Dev nD, r.2.mem ((c.tc : Thread nD τ).loc main_v24) = outCls m c
        ∧ r.2.mem ((c.tc : Thread nD τ).loc main_v28) = outObj m c
        ∧ r.2.mem ((c.tc : Thread nD τ).loc main_v32) = outBb m c)
      ∧ ∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)) :=
  θ_run_and
    ((θ_run defs _ _).mono (fun _ h c =>
      ⟨((h c).2 main_v24 (Pipeline.mem_restRefs_of main_v24 (by decide) (by decide))).trans (tail_cls m c (hl c)),
        ((h c).2 main_v28 (Pipeline.mem_restRefs_of main_v28 (by decide) (by decide))).trans (tail_obj m c),
        ((h c).2 main_v32 (Pipeline.mem_restRefs_of main_v32 (by decide) (by decide))).trans (tail_bb m c)⟩)
      (run_main m ρ))
    (unchanged m ρ)

end Cert.KTail
end
-- ==== Proof.Pick.lean ====
/- The reference's pick of each sample's log-probability by its label, read entry by entry. -/
module

public import proofs.«01_k».proof.Proof.Spec
public import Idealize.ShloMosaic.Lib.ReduceAll

@[expose] public section

noncomputable section

namespace Cert.Pick

open Idealize.ShloMosaic Cert.Spec

abbrev SCol : Shape := ⟨2, ![262144, 1]⟩
abbrev SStart : Shape := ⟨3, ![262144, 1, 1]⟩
abbrev STab (K : Nat) : Shape := ⟨2, ![262144, K]⟩

/-- The dimension numbers of a pick along the last axis, one entry to a row. -/
abbrev alongDims (K : Nat) (wf : GatherDims.WF (STab K) SStart SCol [] [1] [0] [1] [0] 2 ![1, 1]) : GatherDims (STab K) SStart SCol where
  offsetDims := []
  collapsedSliceDims := [1]
  operandBatchingDims := [0]
  startIndicesBatchingDims := [0]
  startIndexMap := [1]
  indexVectorDim := 2
  sliceSizes := ![1, 1]
  wf := wf

/-- The pick at a row is that row's entry at the row's start index, when the index is in range. -/
theorem gather_apply {K : Nat} (wf : GatherDims.WF (STab K) SStart SCol [] [1] [0] [1] [0] 2 ![1, 1])
    {α : Type} (x : (STab K).Idx → α) (idx : IVec SStart 32) (n : Fin 262144) (k : Fin K)
    (hk : (idx (ix3 n 0 0)).toInt.toNat = k.val) :
    Host.gather (alongDims K wf) x idx (ix2 n 0) = x (ix2 n k) := by
  unfold Host.gather
  congr 1
  funext a
  refine Fin.ext ?_
  show (alongDims K wf).start (ix2 n 0) idx a + (alongDims K wf).batchCoord (ix2 n 0) a
      + (alongDims K wf).offCoord (ix2 n 0) a = _
  match a with
  | ⟨0, _⟩ =>
    show (alongDims K wf).start (ix2 n 0) idx 0 + (alongDims K wf).batchCoord (ix2 n 0) 0
      + (alongDims K wf).offCoord (ix2 n 0) 0 = _
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  | ⟨1, _⟩ =>
    show (alongDims K wf).start (ix2 n 0) idx 1 + (alongDims K wf).batchCoord (ix2 n 0) 1
      + (alongDims K wf).offCoord (ix2 n 0) 1 = k.val
    rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims K wf).startIndexMap from List.mem_singleton.mpr rfl)]
    have hsi : (alongDims K wf).siIdx (ix2 n 0) ⟨List.idxOf (1 : Fin 2) (alongDims K wf).startIndexMap,
        List.idxOf_lt_length_iff.2 (List.mem_singleton.mpr rfl)⟩ = ix3 n 0 0 := by
      funext b; refine Fin.ext ?_
      match b with
      | ⟨0, _⟩ => rfl
      | ⟨1, _⟩ => rfl
      | ⟨2, _⟩ => rfl
    rw [hsi, hk]
    have := k.isLt
    show min k.val (K - 1) = k.val
    omega

/-! ## The start indices -/

variable (hb : SLab.BroadcastsInDim SCol (![0] : Fin 1 → Fin SCol.rank))
  (hz : SOne.BroadcastsInDim SCol (![] : Fin 0 → Fin SCol.rank)) (hc : SCol.ShapeCasts SStart)
  (hz3 : SOne.BroadcastsInDim SStart (![] : Fin 0 → Fin SStart.rank))
  (h1 : (⟨1, ![1]⟩ : Shape).BroadcastsInDim ⟨3, ![1, 1, 1]⟩ (![2] : Fin 1 → Fin 3))
  (h3 : (⟨3, ![1, 1, 1]⟩ : Shape).BroadcastsInDim SStart (![0, 1, 2] : Fin 3 → Fin 3))
  (hr : SStart.ReducesTo [2] SCol) (hu : 0 < SOne.numel)

/-- The start indices: a label, counted from the end of the row when negative. -/
def starts (K : BitVec 32) (lab : IVec SLab 32) : IVec SStart 32 :=
  shapeCast _ (select (cmpi .slt (broadcastInDim SCol ![0] hb lab) (broadcastInDim SCol ![] hz (constantI SOne 32 0#32)))
    (addi (broadcastInDim SCol ![0] hb lab) (broadcastInDim SCol ![] hz (constantI SOne 32 K)))
    (broadcastInDim SCol ![0] hb lab)) hc

/-- The flag of a start index in the row. -/
def inRow (last : BitVec 32) (st : IVec SStart 32) : IVec SCol 1 :=
  Host.reduce IntOp.andi (andi (cmpi .sge st (broadcastInDim SStart ![] hz3 (constantI SOne 32 0#32)))
    (cmpi .sle st (broadcastInDim SStart ![0, 1, 2] h3 (broadcastInDim ⟨3, ![1, 1, 1]⟩ ![2] h1 (constantI ⟨1, ![1]⟩ 32 last)))))
    (constantI SOne 1 1#1) hr hu

/-- A label that is not negative is its start index. -/
theorem starts_apply (K : BitVec 32) (lab : IVec SLab 32) (n : Fin 262144) (h : 0 ≤ (lab (ix1 n)).toInt) :
    starts hb hz hc K lab (ix3 n 0 0) = lab (ix1 n) := by
  pointwise [starts]
  simp [Scalar.select, IntOp.cmpi, BitVec.slt, decide_eq_false (not_lt.mpr h)]

/-- A start index in the row is flagged. -/
theorem inRow_apply (last : BitVec 32) (st : IVec SStart 32) (n : Fin 262144) (h0 : 0 ≤ (st (ix3 n 0 0)).toInt)
    (h : (st (ix3 n 0 0)).toInt ≤ last.toInt) :
    inRow hz3 h1 h3 hr hu last st (ix2 n 0) = 1#1 := by
  pointwise [inRow]
  rw [show (Finset.univ : Finset (Fin 1)) = {0} from rfl, Finset.fold_singleton]
  simp [IntOp.andi, IntOp.cmpi, BitVec.sle, h0, h]

/-! ## The log-probabilities -/

section Rows

variable {K : Nat} (hm : (STab K).ReducesTo [1] SLab) (hu : 0 < SOne.numel) (hz1 : SOne.BroadcastsInDim SLab (![] : Fin 0 → Fin SLab.rank))
  (hb : SLab.BroadcastsInDim SCol (![0] : Fin 1 → Fin SCol.rank))
  (hk : SCol.BroadcastsInDim (STab K) (![0, 1] : Fin 2 → Fin (STab K).rank))

/-- Each row's largest score. -/
def rowMax (x : FVec Ideal (STab K) .f32) : FVec Ideal SLab .f32 :=
  maximumf (broadcastInDim SLab ![] hz1 (constant SOne .f32 0xFF800000#32))
    (Host.reduce FloatOps.maximumf x (constant SOne .f32 0xFF800000#32) hm hu)

/-- The scores less their row's largest. -/
def centred (x : FVec Ideal (STab K) .f32) : FVec Ideal (STab K) .f32 :=
  subf x (broadcastInDim (STab K) ![0, 1] hk (broadcastInDim SCol ![0] hb (rowMax hm hu hz1 x)))

/-- The rows' log-probabilities. -/
def rowLogp (x : FVec Ideal (STab K) .f32) : FVec Ideal (STab K) .f32 :=
  subf (centred hm hu hz1 hb hk x) (broadcastInDim (STab K) ![0, 1] hk (Host.log (broadcastInDim SCol ![0] hb
    (Host.reduceAdd (Host.exp (centred hm hu hz1 hb hk x)) (constant SOne .f32 0x00000000#32) hm hu))))

/-- No score is above its row's largest. -/
theorem le_rowMax (x : FVec Ideal (STab K) .f32) (n : Fin 262144) (k : Fin K) : x (ix2 n k) ≤ rowMax hm hu hz1 x (ix1 n) := by
  pointwise [rowMax]
  exact le_max_of_le_right ((Finset.le_fold_max _).mpr (Or.inr ⟨k, Finset.mem_univ _, le_rfl⟩))

/-- A row's largest score is one of its scores, unless the row is empty of any. -/
theorem rowMax_mem (x : FVec Ideal (STab K) .f32) (n : Fin 262144) :
    rowMax hm hu hz1 x (ix1 n) = ⊥ ∨ ∃ k, x (ix2 n k) = rowMax hm hu hz1 x (ix1 n) := by
  pointwise [rowMax]
  rw [show Ideal.ofBits .f32 4286578688#32 = (⊥ : EReal) from by simp [Ideal.ofBits, Ideal.ieee], max_bot_left]
  rcases eq_or_ne (Finset.fold max (⊥ : EReal) (fun k => x (ix2 n k)) Finset.univ) ⊥ with h | h
  · exact Or.inl h
  · rcases (Finset.le_fold_max _).mp (le_refl (Finset.fold max (⊥ : EReal) (fun k => x (ix2 n k)) Finset.univ)) with h' | ⟨k, _, h'⟩
    · exact Or.inl (le_bot_iff.mp h')
    · exact Or.inr ⟨k, le_antisymm ((Finset.le_fold_max _).mpr (Or.inr ⟨k, Finset.mem_univ _, le_rfl⟩)) h'⟩

/-- The rows' log-probabilities, whatever amount each row is shifted by. -/
theorem rowLogp_apply (x : FVec Ideal (STab K) .f32) (n : Fin 262144) (j : Fin K) :
    rowLogp hm hu hz1 hb hk x (ix2 n j) = logp (fun k => x (ix2 n k)) j := by
  pointwise [rowLogp, centred]
  exact logp_shift _ _ (le_rowMax hm hu hz1 x n) (rowMax_mem hm hu hz1 x n) j

end Rows

/-! ## The losses' rows -/

section Loss

variable {K : Nat} (hz1 : SOne.BroadcastsInDim SLab (![] : Fin 0 → Fin SLab.rank)) (hz : SOne.BroadcastsInDim SCol (![] : Fin 0 → Fin SCol.rank))
  (hd : SCol.ShapeCasts SLab)

/-- The picked entries, with a filler at the rows whose flag is down. -/
def picked (ok : IVec SCol 1) (g : FVec Ideal SCol .f32) : FVec Ideal SLab .f32 :=
  shapeCast _ (select ok g (broadcastInDim SCol ![] hz (constant SOne .f32 0x7FC00000#32))) hd

/-- The rows' masked focal losses. -/
def lossRows (z mask : FVec Ideal SLab .f32) : FVec Ideal SLab .f32 :=
  mulf (mulf (Host.negf (Host.powf (subf (broadcastInDim SLab ![] hz1 (constant SOne .f32 0x3F800000#32)) (Host.exp z))
    (broadcastInDim SLab ![] hz1 (constant SOne .f32 0x40000000#32)))) z) mask

/-- A flagged row's picked entry. -/
theorem picked_apply (ok : IVec SCol 1) (g : FVec Ideal SCol .f32) (n : Fin 262144) (h : ok (ix2 n 0) = 1#1) :
    picked hz hd ok g (ix1 n) = g (ix2 n 0) := by
  pointwise [picked]
  rw [h]
  rfl

/-- A row's masked focal loss. -/
theorem lossRows_apply (z mask : FVec Ideal SLab .f32) (n : Fin 262144) (h : z (ix1 n) ≠ ⊤) :
    lossRows hz1 z mask (ix1 n) = focal (z (ix1 n)) * mask (ix1 n) := by
  rw [← focal_pow _ h]
  pointwise [lossRows]

end Loss

end Cert.Pick
end
-- ==== Proof.RVal.lean ====
/- The reference's results: each is the weighted mean of the samples' losses. -/
module

public import proofs.«01_k».proof.Proof.Pick
public import proofs.«01_k».proof.Proof.Gen.ReferenceIdeal
public import proofs.«01_k».proof.Proof.Gen.ReferenceIdeal.Run

@[expose] public section

noncomputable section

namespace Cert.RVal

open Cert.ReferenceIdeal Cert.ReferenceIdeal.Gen Cert.ReferenceIdeal.Value Cert.Spec Cert.Pick
open Idealize.ShloMosaic Idealize.ShloMosaic.TcCoe Idealize.SL.Sem

/-! ## Labels, masks and rows -/

/-- Labels clipped to `0 … last`. -/
def clipped (last : BitVec 32) (lab : IVec S262144 32) : IVec S262144 32 :=
  minsi (broadcastInDim S262144 ![] bcast_S_S262144 (id (constantI S_ 32 last)))
    (maxsi (broadcastInDim S262144 ![] bcast_S_S262144 (id (constantI S_ 32 0#32))) lab)

/-- A clipped label, entry by entry. -/
theorem clipped_apply (last : BitVec 32) (lab : IVec S262144 32) (n : Fin 262144) :
    clipped last lab (ix1 n) = IntOp.minsi last (IntOp.maxsi 0#32 (lab (ix1 n))) := by
  unfold clipped
  pointwise
  rfl

/-- The picked log-probabilities of the class scores. -/
def pickCls (x : FVec Ideal S262144x80 .f32) (lab : IVec S262144 32) : FVec Ideal S262144 .f32 :=
  picked bcast_S_S262144x1 shapeCasts_S262144x1_S262144
    (inRow bcast_S_S262144x1x1 bcast_S1_S1x1x1_2 bcast_S1x1x1_S262144x1x1_0_1_2 reducesTo_S262144x1x1_S262144x1_d2 h_S_ 79#32
      (starts bcast_S262144_S262144x1_0 bcast_S_S262144x1 shapeCasts_S262144x1_S262144x1x1 80#32 (clipped 79#32 lab)))
    (Host.gather (alongDims 80 gather_S262144x80_S262144x1x1_S262144x1_n_1_0_0_1_2_11_wf)
      (rowLogp reducesTo_S262144x80_S262144_d1 h_S_ bcast_S_S262144 bcast_S262144_S262144x1_0 bcast_S262144x1_S262144x80_0_1 x)
      (starts bcast_S262144_S262144x1_0 bcast_S_S262144x1 shapeCasts_S262144x1_S262144x1x1 80#32 (clipped 79#32 lab)))

/-- The picked log-probabilities of the objectness scores. -/
def pickObj (x : FVec Ideal S262144x2 .f32) (lab : IVec S262144 32) : FVec Ideal S262144 .f32 :=
  picked bcast_S_S262144x1 shapeCasts_S262144x1_S262144
    (inRow bcast_S_S262144x1x1 bcast_S1_S1x1x1_2 bcast_S1x1x1_S262144x1x1_0_1_2 reducesTo_S262144x1x1_S262144x1_d2 h_S_ 1#32
      (starts bcast_S262144_S262144x1_0 bcast_S_S262144x1 shapeCasts_S262144x1_S262144x1x1 2#32 (clipped 1#32 (clipped 1#32 lab))))
    (Host.gather (alongDims 2 gather_S262144x2_S262144x1x1_S262144x1_n_1_0_0_1_2_11_wf)
      (rowLogp reducesTo_S262144x2_S262144_d1 h_S_ bcast_S_S262144 bcast_S262144_S262144x1_0 bcast_S262144x1_S262144x2_0_1 x)
      (starts bcast_S262144_S262144x1_0 bcast_S_S262144x1 shapeCasts_S262144x1_S262144x1x1 2#32 (clipped 1#32 (clipped 1#32 lab))))

/-- One at the samples whose objectness target is one. -/
def maskOne (g : IVec S262144 32) : FVec Ideal S262144 .f32 :=
  uitofp .f32 (cmpi .eq g (broadcastInDim S262144 ![] bcast_S_S262144 (constantI S_ 32 1#32)))

/-- One at the samples whose objectness target is not minus one. -/
def maskSet (g : IVec S262144 32) : FVec Ideal S262144 .f32 :=
  uitofp .f32 (cmpi .ne g (broadcastInDim S262144 ![] bcast_S_S262144 (constantI S_ 32 4294967295#32)))

/-- The samples' masked smooth L1 distances. -/
def boxRows (a b : FVec Ideal S262144x4 .f32) (mask : FVec Ideal S262144 .f32) : FVec Ideal S262144 .f32 :=
  mulf (Host.reduceAdd (select (cmpf .olt (Host.absf (subf a b)) (broadcastInDim S262144x4 ![] bcast_S_S262144x4 (constant S_ .f32 0x3DCCCCCD#32)))
    (Host.divf (mulf (mulf (broadcastInDim S262144x4 ![] bcast_S_S262144x4 (constant S_ .f32 0x3F000000#32)) (Host.absf (subf a b))) (Host.absf (subf a b)))
      (broadcastInDim S262144x4 ![] bcast_S_S262144x4 (constant S_ .f32 0x3DCCCCCD#32)))
    (subf (Host.absf (subf a b)) (broadcastInDim S262144x4 ![] bcast_S_S262144x4 (constant S_ .f32 0x3D4CCCCD#32))))
    (constant S_ .f32 0x00000000#32) reducesTo_S262144x4_S262144_d1 h_S_) mask

/-- The class mask, entry by entry. -/
theorem maskOne_apply (g : IVec S262144 32) (n : Fin 262144) : maskOne g (ix1 n) = ind (g (ix1 n) = 1#32) := by
  rw [← uitofp_ofBool]
  pointwise [maskOne]
  simp only [IntOp.cmpi, beq_eq_decide]

/-- The objectness mask, entry by entry. -/
theorem maskSet_apply (g : IVec S262144 32) (n : Fin 262144) : maskSet g (ix1 n) = ind (g (ix1 n) ≠ 4294967295#32) := by
  rw [← uitofp_ofBool]
  pointwise [maskSet]
  simp only [IntOp.cmpi, bne, beq_eq_decide, decide_not]

/-- A sample's masked distance. -/
theorem boxRows_apply (a b : FVec Ideal S262144x4 .f32) (mask : FVec Ideal S262144 .f32) (n : Fin 262144) :
    boxRows a b mask (ix1 n) = (∑ k : Fin 4, sl1 (a (ix2 n k) - b (ix2 n k))) * mask (ix1 n) := by
  pointwise [boxRows, sl1]

/-! ## The picks -/

/-- The class pick of a label in range is the label's log-probability. -/
theorem pickCls_apply (x : FVec Ideal S262144x80 .f32) (lab : IVec S262144 32) (n : Fin 262144)
    (hl : (lab (ix1 n) : BitVec 32).toNat < 80) :
    pickCls x lab (ix1 n) = logp (fun k => x (ix2 n k)) (clsIdx (lab (ix1 n))) := by
  have hi : (lab (ix1 n) : BitVec 32).toInt = ((lab (ix1 n) : BitVec 32).toNat : Int) := BitVec.toInt_eq_toNat_of_lt (by omega)
  have hc : clipped 79#32 lab (ix1 n) = lab (ix1 n) := (clipped_apply _ _ _).trans (clip_cls _ hl)
  have hs : starts bcast_S262144_S262144x1_0 bcast_S_S262144x1 shapeCasts_S262144x1_S262144x1x1 80#32 (clipped 79#32 lab) (ix3 n 0 0)
      = lab (ix1 n) := (starts_apply _ _ _ _ _ n (by rw [hc, hi]; omega)).trans hc
  unfold pickCls
  rw [picked_apply _ _ _ _ n (inRow_apply _ _ _ _ _ _ _ n (by rw [hs, hi]; omega) (by rw [hs, hi]; exact Int.ofNat_le.mpr (Nat.le_of_lt_succ hl))),
    gather_apply _ _ _ n (clsIdx (lab (ix1 n))) (by rw [hs, hi, clsIdx_val _ hl]; rfl), rowLogp_apply]

/-- The objectness pick is the log-probability of the entry the target names. -/
theorem pickObj_apply (x : FVec Ideal S262144x2 .f32) (g : IVec S262144 32) (n : Fin 262144) :
    pickObj x g (ix1 n) = logp (fun k => x (ix2 n k)) (objIdx (g (ix1 n))) := by
  have hlt : (objIdx (g (ix1 n))).val < 2 := (objIdx (g (ix1 n))).isLt
  have hn : (BitVec.ofNat 32 (objIdx (g (ix1 n))).val).toNat = (objIdx (g (ix1 n))).val := by
    rw [BitVec.toNat_ofNat, Nat.mod_eq_of_lt (by omega)]
  have hi : (BitVec.ofNat 32 (objIdx (g (ix1 n))).val).toInt = ((objIdx (g (ix1 n))).val : Int) := by
    rw [BitVec.toInt_eq_toNat_of_lt (by omega), hn]
  have hc : clipped 1#32 (clipped 1#32 g) (ix1 n) = BitVec.ofNat 32 (objIdx (g (ix1 n))).val := by
    rw [clipped_apply, clipped_apply, clip_obj (g (ix1 n))]
    generalize objIdx (g (ix1 n)) = k
    revert k
    decide
  have hs : starts bcast_S262144_S262144x1_0 bcast_S_S262144x1 shapeCasts_S262144x1_S262144x1x1 2#32 (clipped 1#32 (clipped 1#32 g)) (ix3 n 0 0)
      = BitVec.ofNat 32 (objIdx (g (ix1 n))).val := (starts_apply _ _ _ _ _ n (by rw [hc, hi]; omega)).trans hc
  unfold pickObj
  rw [picked_apply _ _ _ _ n (inRow_apply _ _ _ _ _ _ _ n (by rw [hs, hi]; omega) (by rw [hs, hi]; exact Int.ofNat_le.mpr (Nat.le_of_lt_succ hlt))),
    gather_apply _ _ _ n (objIdx (g (ix1 n))) (by rw [hs, hi]; rfl), rowLogp_apply]

/-! ## The results -/

variable (m : (ℓ : Loc nD τ sig) → Buf (Elt Ideal) ℓ)

/-- The arguments, as arrays. -/
abbrev boxes (c : Dev nD) : FVec Ideal S262144x4 .f32 := m ((c : Thread nD τ).loc main_arg0)
abbrev scores (c : Dev nD) : FVec Ideal S262144x80 .f32 := m ((c : Thread nD τ).loc main_arg1)
abbrev pairs (c : Dev nD) : FVec Ideal S262144x2 .f32 := m ((c : Thread nD τ).loc main_arg2)
abbrev goals (c : Dev nD) : FVec Ideal S262144x4 .f32 := m ((c : Thread nD τ).loc main_arg3)
abbrev labels (c : Dev nD) : IVec S262144 32 := m ((c : Thread nD τ).loc main_arg4)
abbrev flags (c : Dev nD) : IVec S262144 32 := m ((c : Thread nD τ).loc main_arg5)

/-- The class result's term, by its parts. -/
theorem res_cls (c : Dev nD) : res_main_v63 m c = weigh 0x461C4000#32 (Host.reduceAdd
    (lossRows bcast_S_S262144 (pickCls (scores m c) (labels m c)) (maskOne (flags m c)))
    (constant SOne .f32 0x00000000#32) reducesTo_S262144_S_d0 h_S_) (m ((c.tc : Thread nD τ).loc main_arg7)) := rfl

/-- The objectness result's term, by its parts. -/
theorem res_obj (c : Dev nD) : res_main_v59 m c = weigh 0x459C4000#32 (Host.reduceAdd
    (lossRows bcast_S_S262144 (pickObj (pairs m c) (flags m c)) (maskSet (flags m c)))
    (constant SOne .f32 0x00000000#32) reducesTo_S262144_S_d0 h_S_) (m ((c.tc : Thread nD τ).loc main_arg6)) := rfl

/-- The class result is the weighted mean of the samples' class losses. -/
theorem val_cls (c : Dev nD) (hl : ∀ n : Fin 262144, (labels m c (ix1 n) : BitVec 32).toNat < 80) :
    res_main_v63 m c = weigh 0x461C4000#32 (fun _ => ∑ n, clsTerm (scores m c) (labels m c) (flags m c) n)
      (m ((c.tc : Thread nD τ).loc main_arg7)) := by
  rw [res_cls, sum_vec]
  refine congrArg (fun t => weigh _ t _) (funext fun _ => Finset.sum_congr rfl fun n _ => ?_)
  rw [lossRows_apply _ _ _ n (by rw [pickCls_apply _ _ n (hl n)]; exact logp_ne_top _ _), pickCls_apply _ _ n (hl n), maskOne_apply]
  rfl

/-- The objectness result is the weighted mean of the samples' objectness losses. -/
theorem val_obj (c : Dev nD) :
    res_main_v59 m c = weigh 0x459C4000#32 (fun _ => ∑ n, objTerm (pairs m c) (flags m c) n)
      (m ((c.tc : Thread nD τ).loc main_arg6)) := by
  rw [res_obj, sum_vec]
  refine congrArg (fun t => weigh _ t _) (funext fun _ => Finset.sum_congr rfl fun n _ => ?_)
  rw [lossRows_apply _ _ _ n (by rw [pickObj_apply]; exact logp_ne_top _ _), pickObj_apply, maskSet_apply]
  rfl

/-- The box total is the sum of the samples' box losses. -/
theorem sum_box (a b : FVec Ideal S262144x4 .f32) (g : IVec S262144 32) :
    Host.reduceAdd (boxRows a b (maskOne g)) (constant SOne .f32 0x00000000#32) reducesTo_S262144_S_d0 h_S_
      = fun _ => ∑ n, bbTerm a b g n := by
  rw [sum_vec]
  funext _
  refine Finset.sum_congr rfl fun n _ => ?_
  rw [boxRows_apply, maskOne_apply]
  rfl

/-- The box result. -/
def outBb (c : Dev nD) : FVec Ideal SOne .f32 :=
  weigh 0x469C4000#32 (Host.reduceAdd (boxRows (boxes m c) (goals m c) (maskOne (flags m c)))
    (constant SOne .f32 0x00000000#32) reducesTo_S262144_S_d0 h_S_) (m ((c.tc : Thread nD τ).loc main_arg8))

/-- The box result is the weighted mean of the samples' box losses. -/
theorem val_bb (c : Dev nD) :
    outBb m c = weigh 0x469C4000#32 (fun _ => ∑ n, bbTerm (boxes m c) (goals m c) (flags m c) n)
      (m ((c.tc : Thread nD τ).loc main_arg8)) :=
  congrArg (weigh _ · _) (sum_box _ _ _)

end Cert.RVal
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.KTail
public import proofs.«01_k».proof.Proof.RVal
public import Idealize.ShloMosaic.Lib.Quiescent
public import Idealize.ShloMosaic.Adequacy
public import Idealize.ShloMosaic.Init

@[expose] public section

noncomputable section

namespace Cert.Proof

open Idealize.ShloMosaic Idealize.SL.Sem

/-- The predicate's one shape fact. -/
theorem preFacts : Cert.Pre_labels_in_range.Facts := ⟨Cert.ReferenceIdeal.Gen.bcast_S_S262144⟩

/-- A label the predicate admits is below the number of classes. -/
theorem label_lt (w : BitVec 32) (h : IntOp.andi (IntOp.cmpi .sge w 0#32) (IntOp.cmpi .slt w 80#32) = 1#1) : w.toNat < 80 := by
  have h' : 0 ≤ w.toInt ∧ w.toInt < 80 := by
    revert h
    simp only [IntOp.andi, IntOp.cmpi, BitVec.sle, BitVec.slt]
    by_cases h0 : (0#32).toInt ≤ w.toInt <;> by_cases h1 : w.toInt < (80#32).toInt
    · exact fun _ => ⟨h0, h1⟩
    all_goals
      simp only [h0, h1, decide_true, decide_false]
      exact fun e => absurd e (by decide)
  have := BitVec.toInt_eq_toNat_cond w
  have hw := w.isLt
  split at this <;> omega

/-- The precondition says every label is below the number of classes. -/
theorem labels_lt (m : (ℓ : Loc Cert.KernelIdeal.nD Cert.KernelIdeal.τ Cert.KernelIdeal.sig) → Buf (Elt Ideal) ℓ)
    (h : Cert.Pre_KernelIdeal_labels_in_range (hPre_labels_in_range := preFacts) m) (c : Dev Cert.KernelIdeal.nD) (n : Fin 262144) :
    (Cert.KSum.labels m c (ix1 n) : BitVec 32).toNat < 80 := by
  have := congrFun (h c) (ix1 n)
  unfold Cert.Pre_labels_in_range.fn at this
  exact label_lt _ this

/-- The reference program's frame, with its counters: it declares none. -/
theorem frameRef (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0) :=
  (θ_run _ _ _).mono (fun r h => ⟨fun c => (h c).2.2.2, sem_eq_zero_of_no_sems rfl r.2⟩) (Cert.ReferenceIdeal.Value.run m g)

/-- The kernel's results are the reference's, on labels in range. -/
theorem value : Cert.algebraic_KernelIdeal_ReferenceIdeal_pre_labels_in_range (hPre_labels_in_range := preFacts) := by
  intro m g m' g' hp ha
  have hl := labels_lt m hp
  refine ⟨Cert.KTail.outCls m, Cert.KTail.outObj m, Cert.KTail.outBb m,
    (θ_run _ _ _).mono (fun r h c => ⟨(h.1 c).1, (h.1 c).2.1, (h.1 c).2.2, h.2 c⟩) (Cert.KTail.run m g hl),
    (θ_run _ _ _).mono (fun r h c => ?_) (Cert.ReferenceIdeal.Value.run m' g')⟩
  obtain ⟨a0, a1, a2, a3, a4, a5, a6, a7, a8, _⟩ := ha c
  refine ⟨(h c).1.trans ?_, (h c).2.1.trans ?_, (h c).2.2.1.trans ?_, (h c).2.2.2⟩
  · refine (Cert.RVal.val_cls m' c fun n => ?_).trans ?_
    · show (m' ((c.tc : Thread Cert.ReferenceIdeal.nD Cert.ReferenceIdeal.τ).loc Cert.ReferenceIdeal.main_arg4) (ix1 n) : BitVec 32).toNat < 80
      rw [a4]
      exact hl c n
    · unfold Cert.KTail.outCls Cert.RVal.scores Cert.RVal.labels Cert.RVal.flags
      rw [a1, a4, a5, a7]
  · refine (Cert.RVal.val_obj m' c).trans ?_
    unfold Cert.KTail.outObj Cert.RVal.pairs Cert.RVal.flags
    rw [a2, a5, a6]
  · refine (Cert.RVal.val_bb m' c).trans ?_
    unfold Cert.KTail.outBb Cert.RVal.boxes Cert.RVal.goals Cert.RVal.flags
    rw [a0, a3, a5, a8]

/-- Every claim. -/
theorem claim : Cert.Claim :=
  ⟨Cert.Kernel.Gen.facts, Cert.KernelIdeal.Gen.facts, Cert.ReferenceIdeal.Gen.facts, preFacts,
    fun m g _ => Cert.Kernel.Gen.frame m g, fun m g _ => Cert.KernelIdeal.Gen.frame m g, fun m g _ => Cert.KernelIdeal.Gen.frame m g,
    fun m g _ => frameRef m g, fun m g _ => frameRef m g, trivial, value⟩

end Cert.Proof

end
